-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v81) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S7x128x1024 : Shape := ⟨3, ![7, 128, 1024]⟩
abbrev S14 : Shape := ⟨1, ![14]⟩
abbrev S7 : Shape := ⟨1, ![7]⟩
abbrev S_ : Shape := ⟨0, ![]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩
abbrev S1 : Shape := ⟨1, ![1]⟩
abbrev S1x128x1024 : Shape := ⟨3, ![1, 128, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S7x128x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_209 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_208 : BitVec 32 := 8#32
  let v412 : BitVec 32 := Scalar.addi v2 c8_i32_208
  let v413 : BitVec 32 := Scalar.subi v412 c0_i32_209
  let c8_i32_210 : BitVec 32 := 8#32
  let v414 : BitVec 32 := Scalar.remsi v413 c8_i32_210
  let c128_i32 : BitVec 32 := 128#32
  let v419 : BitVec 32 := Scalar.muli v414 c128_i32
  let c0_i32_222 : BitVec 32 := 0#32
  ![v419.toNat, 0]
def k0_dev3 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_218 : BitVec 32 := 1#32
  let v420 : BitVec 32 := Scalar.muli v7 c1_i32_218
  let v421 : BitVec 32 := Scalar.addi c0_i32_219 v420
  v421.toNat
def k0_off2 (d0 : Dev nD) (c0_i32_212 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_211 : BitVec 32 := 8#32
  let v415 : BitVec 32 := Scalar.addi v2 c8_i32_211
  let v416 : BitVec 32 := Scalar.subi v415 c0_i32_212
  let c1_i32_213 : BitVec 32 := 1#32
  let v417 : BitVec 32 := Scalar.subi v416 c1_i32_213
  let c8_i32_214 : BitVec 32 := 8#32
  let v418 : BitVec 32 := Scalar.remsi v417 c8_i32_214
  let c128_i32_238 : BitVec 32 := 128#32
  let v441 : BitVec 32 := Scalar.muli v418 c128_i32_238
  let v442 : Index := Scalar.indexCast v441
  let c0_239 : Index := 0#32
  ![v442.toNat, 0]
def k0_dev4 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_256 : BitVec 32 := 1#32
  let v459 : BitVec 32 := Scalar.muli v7 c1_i32_256
  let v460 : BitVec 32 := Scalar.addi c0_i32_257 v459
  v460.toNat
def k0_dev5 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_293 : BitVec 32 := 1#32
  let v498 : BitVec 32 := Scalar.muli v7 c1_i32_293
  let v499 : BitVec 32 := Scalar.addi c0_i32_294 v498
  v499.toNat
def k0_dev6 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_329 : BitVec 32 := 1#32
  let v537 : BitVec 32 := Scalar.muli v7 c1_i32_329
  let v538 : BitVec 32 := Scalar.addi c0_i32_330 v537
  v538.toNat
def k0_dev7 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_365 : BitVec 32 := 1#32
  let v576 : BitVec 32 := Scalar.muli v7 c1_i32_365
  let v577 : BitVec 32 := Scalar.addi c0_i32_366 v576
  v577.toNat
def k0_dev8 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_401 : BitVec 32 := 1#32
  let v615 : BitVec 32 := Scalar.muli v7 c1_i32_401
  let v616 : BitVec 32 := Scalar.addi c0_i32_402 v615
  v616.toNat
def k0_dev9 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_437 : BitVec 32 := 1#32
  let v654 : BitVec 32 := Scalar.muli v7 c1_i32_437
  let v655 : BitVec 32 := Scalar.addi c0_i32_438 v654
  v655.toNat
def k0_off3 (d0 : Dev nD) (c0_i32_465 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_463 : BitVec 32 := 1#32
  let v685 : BitVec 32 := Scalar.addi v2 c1_i32_463
  let c8_i32_464 : BitVec 32 := 8#32
  let v686 : BitVec 32 := Scalar.addi v685 c8_i32_464
  let v687 : BitVec 32 := Scalar.subi v686 c0_i32_465
  let c8_i32_466 : BitVec 32 := 8#32
  let v688 : BitVec 32 := Scalar.remsi v687 c8_i32_466
  let c128_i32_468 : BitVec 32 := 128#32
  let v690 : BitVec 32 := Scalar.muli v688 c128_i32_468
  let c0_i32_472 : BitVec 32 := 0#32
  ![v690.toNat, 0]
def k0_dev10 (d0 : Dev nD) : Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_470 : BitVec 32 := 1#32
  let v691 : BitVec 32 := Scalar.muli v7 c1_i32_470
  let v692 : BitVec 32 := Scalar.addi c0_i32_471 v691
  v692.toNat
def k0_dev11 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_493 : BitVec 32 := 1#32
  let v715 : BitVec 32 := Scalar.muli v7 c1_i32_493
  let v716 : BitVec 32 := Scalar.addi c0_i32_494 v715
  v716.toNat
def k0_dev12 (d0 : Dev nD) : Nat :=
  let c0_i32_516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_515 : BitVec 32 := 1#32
  let v739 : BitVec 32 := Scalar.muli v7 c1_i32_515
  let v740 : BitVec 32 := Scalar.addi c0_i32_516 v739
  v740.toNat
def k0_dev13 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_537 : BitVec 32 := 1#32
  let v763 : BitVec 32 := Scalar.muli v7 c1_i32_537
  let v764 : BitVec 32 := Scalar.addi c0_i32_538 v763
  v764.toNat
def k0_dev14 (d0 : Dev nD) : Nat :=
  let c0_i32_560 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_559 : BitVec 32 := 1#32
  let v787 : BitVec 32 := Scalar.muli v7 c1_i32_559
  let v788 : BitVec 32 := Scalar.addi c0_i32_560 v787
  v788.toNat
def k0_dev15 (d0 : Dev nD) : Nat :=
  let c0_i32_582 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_581 : BitVec 32 := 1#32
  let v811 : BitVec 32 := Scalar.muli v7 c1_i32_581
  let v812 : BitVec 32 := Scalar.addi c0_i32_582 v811
  v812.toNat
def k0_dev16 (d0 : Dev nD) : Nat :=
  let c0_i32_604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_603 : BitVec 32 := 1#32
  let v835 : BitVec 32 := Scalar.muli v7 c1_i32_603
  let v836 : BitVec 32 := Scalar.addi c0_i32_604 v835
  v836.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x8192 : Shape := ⟨2, ![1024, 8192]⟩
abbrev S8192x1024 : Shape := ⟨2, ![8192, 1024]⟩
abbrev S64 : Shape := ⟨1, ![64]⟩
abbrev S_ : Shape := ⟨0, ![]⟩
abbrev S1024 : Shape := ⟨1, ![1024]⟩
abbrev S1024x1 : Shape := ⟨2, ![1024, 1]⟩
abbrev S1x64 : Shape := ⟨2, ![1, 64]⟩
abbrev S1024x64 : Shape := ⟨2, ![1024, 64]⟩
abbrev S1024x64x2 : Shape := ⟨3, ![1024, 64, 2]⟩
abbrev S1024x128 : Shape := ⟨2, ![1024, 128]⟩
abbrev S1x1024x8192 : Shape := ⟨3, ![1, 1024, 8192]⟩
abbrev S1x1024x64x128 : Shape := ⟨4, ![1, 1024, 64, 128]⟩
abbrev S1x1024x64x64x2 : Shape := ⟨5, ![1, 1024, 64, 64, 2]⟩
abbrev S1x1024x64x64x1 : Shape := ⟨5, ![1, 1024, 64, 64, 1]⟩
abbrev S1x1024x64x64 : Shape := ⟨4, ![1, 1024, 64, 64]⟩
abbrev S1x1024x1x128 : Shape := ⟨4, ![1, 1024, 1, 128]⟩
abbrev S1x64x1024x1024 : Shape := ⟨4, ![1, 64, 1024, 1024]⟩
abbrev S1x64x1024 : Shape := ⟨3, ![1, 64, 1024]⟩
abbrev S1x64x1024x1 : Shape := ⟨4, ![1, 64, 1024, 1]⟩
abbrev S1x64x128x1024 : Shape := ⟨4, ![1, 64, 128, 1024]⟩
abbrev S1024x1024 : Shape := ⟨2, ![1024, 1024]⟩

abbrev nBuf : Space → Nat
  | .hbm => 95
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x8192, .f32⟩
  | .hbm, ⟨2, _⟩ => ⟨S1024x8192, .f32⟩
  | .hbm, ⟨3, _⟩ => ⟨S1024x8192, .f32⟩
  | .hbm, ⟨4, _⟩ => ⟨S8192x1024, .f32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S1024, .i32⟩
  | .hbm, ⟨23, _⟩ => ⟨S1024x1, .i32⟩
  | .hbm, ⟨24, _⟩ => ⟨S1x64, .f32⟩
  | .hbm, ⟨25, _⟩ => ⟨S1024x1, .f32⟩
  | .hbm, ⟨26, _⟩ => ⟨S1024x64, .f32⟩
  | .hbm, ⟨27, _⟩ => ⟨S1024x64, .f32⟩
  | .hbm, ⟨28, _⟩ => ⟨S1024x64, .f32⟩
  | .hbm, ⟨29, _⟩ => ⟨S1024x64, .f32⟩
  | .hbm, ⟨30, _⟩ => ⟨S1024x64x2, .f32⟩
  | .hbm, ⟨31, _⟩ => ⟨S1024x128, .f32⟩
  | .hbm, ⟨32, _⟩ => ⟨S1024x64, .f32⟩
  | .hbm, ⟨33, _⟩ => ⟨S1024x64x2, .f32⟩
  | .hbm, ⟨34, _⟩ => ⟨S1024x128, .f32⟩
  | .hbm, ⟨35, _⟩ => ⟨S1x1024x8192, .f32⟩
  | .hbm, ⟨36, _⟩ => ⟨S1x1024x64x128, .f32⟩
  | .hbm, ⟨37, _⟩ => ⟨S1x1024x64x64x2, .f32⟩
  | .hbm, ⟨38, _⟩ => ⟨S1x1024x64x64x1, .f32⟩
  | .hbm, ⟨39, _⟩ => ⟨S1x1024x64x64, .f32⟩
  | .hbm, ⟨40, _⟩ => ⟨S1x1024x64x64, .f32⟩
  | .hbm, ⟨41, _⟩ => ⟨S1x1024x64x64x1, .f32⟩
  | .hbm, ⟨42, _⟩ => ⟨S1x1024x64x64, .f32⟩
  | .hbm, ⟨43, _⟩ => ⟨S1x1024x64x64x1, .f32⟩
  | .hbm, ⟨44, _⟩ => ⟨S1x1024x64x64x1, .f32⟩
  | .hbm, ⟨45, _⟩ => ⟨S1x1024x64x64x2, .f32⟩
  | .hbm, ⟨46, _⟩ => ⟨S1x1024x64x128, .f32⟩
  | .hbm, ⟨47, _⟩ => ⟨S1x1024x1x128, .f32⟩
  | .hbm, ⟨48, _⟩ => ⟨S1x1024x64x128, .f32⟩
  | .hbm, ⟨49, _⟩ => ⟨S1x1024x64x128, .f32⟩
  | .hbm, ⟨50, _⟩ => ⟨S1x1024x1x128, .f32⟩
  | .hbm, ⟨51, _⟩ => ⟨S1x1024x64x128, .f32⟩
  | .hbm, ⟨52, _⟩ => ⟨S1x1024x64x128, .f32⟩
  | .hbm, ⟨53, _⟩ => ⟨S1x1024x64x128, .f32⟩
  | .hbm, ⟨54, _⟩ => ⟨S1x1024x8192, .f32⟩
  | .hbm, ⟨55, _⟩ => ⟨S1x1024x64x128, .f32⟩
  | .hbm, ⟨56, _⟩ => ⟨S1x1024x64x64x2, .f32⟩
  | .hbm, ⟨57, _⟩ => ⟨S1x1024x64x64x1, .f32⟩
  | .hbm, ⟨58, _⟩ => ⟨S1x1024x64x64, .f32⟩
  | .hbm, ⟨59, _⟩ => ⟨S1x1024x64x64, .f32⟩
  | .hbm, ⟨60, _⟩ => ⟨S1x1024x64x64x1, .f32⟩
  | .hbm, ⟨61, _⟩ => ⟨S1x1024x64x64, .f32⟩
  | .hbm, ⟨62, _⟩ => ⟨S1x1024x64x64x1, .f32⟩
  | .hbm, ⟨63, _⟩ => ⟨S1x1024x64x64x1, .f32⟩
  | .hbm, ⟨64, _⟩ => ⟨S1x1024x64x64x2, .f32⟩
  | .hbm, ⟨65, _⟩ => ⟨S1x1024x64x128, .f32⟩
  | .hbm, ⟨66, _⟩ => ⟨S1x1024x1x128, .f32⟩
  | .hbm, ⟨67, _⟩ => ⟨S1x1024x64x128, .f32⟩
  | .hbm, ⟨68, _⟩ => ⟨S1x1024x64x128, .f32⟩
  | .hbm, ⟨69, _⟩ => ⟨S1x1024x1x128, .f32⟩
  | .hbm, ⟨70, _⟩ => ⟨S1x1024x64x128, .f32⟩
  | .hbm, ⟨71, _⟩ => ⟨S1x1024x64x128, .f32⟩
  | .hbm, ⟨72, _⟩ => ⟨S1x1024x64x128, .f32⟩
  | .hbm, ⟨73, _⟩ => ⟨S1x1024x8192, .f32⟩
  | .hbm, ⟨74, _⟩ => ⟨S1x1024x64x128, .f32⟩
  | .hbm, ⟨75, _⟩ => ⟨S1x64x1024x1024, .f32⟩
  | .hbm, ⟨76, _⟩ => ⟨S_, .f32⟩
  | .hbm, ⟨77, _⟩ => ⟨S1x64x1024x1024, .f32⟩
  | .hbm, ⟨78, _⟩ => ⟨S1x64x1024x1024, .f32⟩
  | .hbm, ⟨79, _⟩ => ⟨S_, .f32⟩
  | .hbm, ⟨80, _⟩ => ⟨S1x64x1024, .f32⟩
  | .hbm, ⟨81, _⟩ => ⟨S1x64x1024x1, .f32⟩
  | .hbm, ⟨82, _⟩ => ⟨S1x64x1024x1024, .f32⟩
  | .hbm, ⟨83, _⟩ => ⟨S1x64x1024x1024, .f32⟩
  | .hbm, ⟨84, _⟩ => ⟨S1x64x1024x1024, .f32⟩
  | .hbm, ⟨85, _⟩ => ⟨S_, .f32⟩
  | .hbm, ⟨86, _⟩ => ⟨S1x64x1024, .f32⟩
  | .hbm, ⟨87, _⟩ => ⟨S1x64x1024x1, .f32⟩
  | .hbm, ⟨88, _⟩ => ⟨S1x64x1024x1024, .f32⟩
  | .hbm, ⟨89, _⟩ => ⟨S1x64x1024x1024, .f32⟩
  | .hbm, ⟨90, _⟩ => ⟨S1x64x128x1024, .f32⟩
  | .hbm, ⟨91, _⟩ => ⟨S1x1024x64x128, .f32⟩
  | .hbm, ⟨92, _⟩ => ⟨S1x1024x8192, .f32⟩
  | .hbm, ⟨93, _⟩ => ⟨S1x1024x1024, .f32⟩
  | .hbm, ⟨94, _⟩ => ⟨S1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩

abbrev nD : Nat := 1
abbrev τ : Topo := Topo.v7x

variable {F : FTy → Type} [FloatOps F]
-- ==== Proof.KernelIdealRing.lean ====
/-
  The ring protocol of the kernel, before its body is run.

  Eight devices stand in a ring.  Device `c` first writes its partial result into its whole result buffer, then makes
  fourteen transfers to the device after it, numbered 0 to 13: the seven of the summing phase go into that device's
  landing buffer, one slot each, the seven of the spreading phase into its result buffer.  The result buffer is cut
  into eight chunks of 128 rows.  Transfer `k` of device `c` sends the chunk `back c k`, that is `c - k` modulo 8, and
  what arrives at `c` by transfer `k` is the chunk `back c (k + 1)`.

  Who may write what.  In the spreading phase a device overwrites a chunk of the next device's result buffer, so it must
  hold that chunk: a device gives each chunk away together with the transfer that sends its contents in the summing
  phase, and the chunk then travels around the ring with the sum it went into, until the device before it receives it
  and uses it as the destination of a transfer.  So every transfer carries a bag of chunks of devices further back
  (`hold`), at contents nobody reads.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ValueLayout
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The resource algebra: the pipeline's copy of the rounds library and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices -/

set_option backward.proofsInPublic true in
/-- The device `k` places before `c` on the ring. -/
def back (c : Dev nD) (k : ℕ) : Dev nD := ⟨(c.val + 7 * k) % 8, Nat.mod_lt _ (by decide)⟩
/-- The device after `c`, -/
abbrev nxt (c : Dev nD) : Dev nD := back c 7
/-- and the device before it. -/
abbrev prv (c : Dev nD) : Dev nD := back c 1

theorem dev_lt (c : Dev nD) : c.val < 8 := c.isLt

theorem back_val (c : Dev nD) (k : ℕ) : (back c k).val = (c.val + 7 * k) % 8 := rfl

/-- Two devices are the same when their numbers agree. -/
theorem dev_ext {a b : Dev nD} (h : a.val = b.val) : a = b := Fin.ext h

/-- Going back from a device already back adds up. -/
theorem back_back (c : Dev nD) (j k : ℕ) : back (back c j) k = back c (j + k) :=
  dev_ext (by simp only [back_val]; omega)
/-- Going back eight places is staying. -/
theorem back_add_eight (c : Dev nD) (k : ℕ) : back c (k + 8) = back c k :=
  dev_ext (by simp only [back_val]; omega)
theorem back_zero (c : Dev nD) : back c 0 = c :=
  dev_ext (by have := dev_lt c; simp only [back_val]; omega)
theorem back_nxt (c : Dev nD) (k : ℕ) : back (nxt c) (k + 1) = back c k := by
  rw [back_back, show 7 + (k + 1) = k + 8 from by omega, back_add_eight]
theorem prv_nxt (c : Dev nD) : prv (nxt c) = c := (back_nxt c 0).trans (back_zero c)
theorem nxt_prv (c : Dev nD) : nxt (prv c) = c :=
  (back_back c 1 7).trans ((back_add_eight c 0).trans (back_zero c))

/-- The ring as a permutation of the devices. -/
def ring : Dev nD ≃ Dev nD := ⟨nxt, prv, prv_nxt, nxt_prv⟩

/-! ## Memrefs and cells -/

abbrev xM : Memref sig .tc .vmem S1x1024x1024 .f32 := Memref.whole cc0_stg0_0
abbrev oM : Memref sig .tc .vmem S1024x1024 .f32 := Memref.whole cc0_stg5_0
abbrev rM : Memref sig .tc .vmem S7x128x1024 .f32 := Memref.whole cc0_scratch0

abbrev barS : Sem sig := (SemArray.scalar (sig.barrier 0 rfl) : Sems sig S_).sem
/-- The semaphore of transfer `k`'s read-out, -/
abbrev sendS (k : ℕ) : DmaSem sig := Fin.ofNat 34 (6 + k)
/-- and of its landing. -/
abbrev recvS (k : ℕ) : DmaSem sig := Fin.ofNat 34 (20 + k)

abbrev barCell (c : Dev nD) : GSem nD τ sig := ((c : Thread nD τ), .reg barS)
abbrev sendCell (c : Dev nD) (k : ℕ) : GSem nD τ sig := ((c : Thread nD τ), .dma (sendS k))
abbrev recvCell (c : Dev nD) (k : ℕ) : GSem nD τ sig := ((c : Thread nD τ), .dma (recvS k))

/-- A device's twenty-nine cells: the barrier, then the send and receive cells by number. -/
abbrev csem (i : Fin 29) : SemLoc sig := if i.val = 0 then .reg barS else .dma (Fin.ofNat 34 (i.val + 5))
abbrev kcell (ck : Dev nD × Fin 29) : GSem nD τ sig := ((ck.1 : Thread nD τ), csem ck.2)

/-- What the transfer of one chunk credits. -/
abbrev N : ℕ := ((oM.slice (Rect.unit (s := S1024x1024) ![0, 0] S128x1024.size inb_S1024x1024_S128x1024_0_0) (fun _ => rfl)) : Memref sig .tc .vmem S128x1024 .f32).view.dmaCredit
theorem N_pos : 0 < N := View.dmaCredit_pos _ (by decide)

/-! ## Chunks and slots -/

/-- A result buffer's contents, and a landing buffer's. -/
abbrev OutV (F : FTy → Type) : Type := S1024x1024.Idx → F .f32
abbrev ComV (F : FTy → Type) : Type := S7x128x1024.Idx → F .f32

/-- The elements of chunk `q` of a result buffer: rows `128 q` to `128 q + 127`. -/
def chunkSet (q : ℕ) : Finset S1024x1024.Idx := Finset.univ.filter fun x => (x 0).val / 128 = q
/-- The elements of slot `h` of a landing buffer. -/
def slotSet (h : ℕ) : Finset S7x128x1024.Idx := Finset.univ.filter fun x => (x 0).val = h

theorem mem_chunkSet {q : ℕ} {x : S1024x1024.Idx} : x ∈ chunkSet q ↔ (x 0).val / 128 = q := by
  unfold chunkSet; rw [Finset.mem_filter]; exact and_iff_right (Finset.mem_univ x)
theorem mem_slotSet {h : ℕ} {x : S7x128x1024.Idx} : x ∈ slotSet h ↔ (x 0).val = h := by
  unfold slotSet; rw [Finset.mem_filter]; exact and_iff_right (Finset.mem_univ x)

/-- Chunk `q` of device `c`'s result buffer held at the buffer contents `f`. -/
def chunkPts (c q : Dev nD) (f : OutV F) : sProp 𝕄 :=
  ((c : Thread nD τ).loc cc0_stg5_0) ↦[chunkSet q.val]{fullShare} f
/-- Slot `h` of device `c`'s landing buffer held at the buffer contents `f`. -/
def slotPts (c : Dev nD) (h : ℕ) (f : ComV F) : sProp 𝕄 :=
  ((c : Thread nD τ).loc cc0_scratch0) ↦[slotSet h]{fullShare} f

instance chunkPts_storable (c q : Dev nD) (f : OutV F) : BI.Storable (upEmb : UEmb _ 𝕄) (chunkPts c q f) := by unfold chunkPts; infer_instance
instance slotPts_storable (c : Dev nD) (h : ℕ) (f : ComV F) : BI.Storable (upEmb : UEmb _ 𝕄) (slotPts c h f) := by unfold slotPts; infer_instance

/-! ## Contents -/

section Contents

variable (pt : Dev nD → OutV F)

set_option backward.proofsInPublic true in
/-- The device whose chunk a row lies in, and those after it. -/
def rowDev (r j : ℕ) : Dev nD := ⟨(r / 128 + j) % 8, Nat.mod_lt _ (by decide)⟩

/-- The sum after `j` additions: each element is the partial result of the device its chunk is named after, with the
    partial results of the `j` devices after that one added in turn. -/
def acc : ℕ → OutV F
  | 0 => fun x => pt (rowDev (x 0).val 0) x
  | j + 1 => fun x => FloatOps.addf (pt (rowDev (x 0).val (j + 1)) x) (acc j x)

/-- The place in a result buffer of the element at row `r`, lane `l` of chunk `q`. -/
def chunkIdx (q : Dev nD) (r : Fin 128) (l : Fin 1024) : S1024x1024.Idx :=
  ix2 (⟨128 * q.val + r.val, by have := dev_lt q; have := r.isLt; omega⟩ : Fin 1024) l

/-- What device `c`'s landing buffer holds once slot after slot has been filled: in slot `h` the chunk that arrives by
    transfer `h`, summed over `h + 1` devices. -/
def commC (c : Dev nD) : ComV F := fun x => acc pt (x 0).val (chunkIdx (back c ((x 0).val + 1)) (x 1) (x 2))

end Contents

/-! ## The schedule -/

section Schedule

variable (pt : Dev nD → OutV F)

/-- The chunks of devices further back that device `c` has in hand before its transfer `k`: chunk `back c k` of the
    device `j` places before it, at any contents. -/
def hold (c : Dev nD) (k : ℕ) : sProp 𝕄 :=
  bigSep (Finset.Ico (max 1 (k - 6)) (min (k + 1) 8)) fun j => iprop(∃ f, chunkPts (back c j) (back c k) f)

/-- What lands at device `c` by transfer `k`. -/
def landed (c : Dev nD) (k : ℕ) : sProp 𝕄 :=
  if k < 7 then slotPts c k (commC pt c) else chunkPts c (back c (k + 1)) (acc pt 7)

/-- What the barrier signal of the device after `c` hands `c`: that device's landing buffer, slot by slot. -/
def barPay (c : Dev nD) : sProp 𝕄 := bigSep (Finset.range 7) fun h => iprop(∃ f, slotPts (nxt c) h f)
/-- What the landing of transfer `k` hands `c`. -/
def recvPay (c : Dev nD) (k : ℕ) : sProp 𝕄 := iprop(landed pt c k ∗ hold c (k + 1))
/-- What the read-out of transfer `k` hands `c` back: nothing while summing (the source goes with the landing), the
    source while spreading. -/
def sendPay (c : Dev nD) (k : ℕ) : sProp 𝕄 := if k < 7 then iprop(emp) else chunkPts c (back c k) (acc pt 7)

instance hold_storable (c : Dev nD) (k : ℕ) : BI.Storable (upEmb : UEmb _ 𝕄) (hold (F := F) c k) := by unfold hold; infer_instance
instance landed_storable (c : Dev nD) (k : ℕ) : BI.Storable (upEmb : UEmb _ 𝕄) (landed pt c k) := by unfold landed; split <;> infer_instance
instance barPay_storable (c : Dev nD) : BI.Storable (upEmb : UEmb _ 𝕄) (barPay (F := F) c) := by unfold barPay; infer_instance
instance recvPay_storable (c : Dev nD) (k : ℕ) : BI.Storable (upEmb : UEmb _ 𝕄) (recvPay pt c k) := by unfold recvPay; infer_instance
instance sendPay_storable (c : Dev nD) (k : ℕ) : BI.Storable (upEmb : UEmb _ 𝕄) (sendPay pt c k) := by unfold sendPay; split <;> infer_instance

/-- Which duties a semaphore has at its one round: two at the barrier, one at a send or receive semaphore. -/
def dutiesOf : SemLoc sig → Finset Bool
  | .reg s => if s = barS then Finset.univ else ∅
  | .dma q => if 6 ≤ q.val then {false} else ∅
/-- The units a duty brings, -/
def amountOf : SemLoc sig → ℕ
  | .reg _ => 1
  | .dma _ => N
/-- and what it hands over. -/
def payOf (c : Dev nD) (d : Bool) : SemLoc sig → sProp 𝕄
  | .reg _ => if d then barPay c else iprop(emp)
  | .dma q => if q.val < 20 then sendPay pt c (q.val - 6) else recvPay pt c (q.val - 20)

instance payOf_storable (c : Dev nD) (d : Bool) (s : SemLoc sig) : BI.Storable (upEmb : UEmb _ 𝕄) (payOf pt c d s) := by
  cases s <;> (unfold payOf; dsimp only; split <;> infer_instance)

/-- The schedule: one round. -/
def ringRd : Rounds.Schedule (GSem nD τ sig) Bool 𝕄 where
  duties g r := if r = 0 ∧ g.1.2 = .tc then dutiesOf g.2 else ∅
  unitless _ := False
  amount g _ _ := amountOf g.2
  payload g _ d := payOf pt g.1.1 d g.2
  amount_pos g _ _ _ := by
    rcases g with ⟨t, s⟩; cases s
    · exact Nat.one_pos
    · exact N_pos

instance ringRd_payload_storable (g : GSem nD τ sig) (r : ℕ) (d : Bool) :
    BI.Storable (upEmb : UEmb _ 𝕄) ((ringRd pt).payload g r d) := payOf_storable pt g.1.1 d g.2

theorem sendS_val {k : ℕ} (hk : k < 14) : (sendS k).val = 6 + k := Nat.mod_eq_of_lt (by omega)
theorem recvS_val {k : ℕ} (hk : k < 14) : (recvS k).val = 20 + k := Nat.mod_eq_of_lt (by omega)

variable (c : Dev nD) {k : ℕ} (hk : k < 14)

theorem duties_bar : (ringRd pt).duties (barCell c) 0 = Finset.univ := by
  dsimp only [ringRd, dutiesOf]
  rw [if_pos ⟨rfl, rfl⟩, if_pos rfl]
include hk in
theorem duties_send : (ringRd pt).duties (sendCell c k) 0 = {false} := by
  have h : 6 ≤ (sendS k).val := by rw [sendS_val hk]; omega
  dsimp only [ringRd, dutiesOf]
  rw [if_pos ⟨rfl, rfl⟩, if_pos h]
include hk in
theorem duties_recv : (ringRd pt).duties (recvCell c k) 0 = {false} := by
  have h : 6 ≤ (recvS k).val := by rw [recvS_val hk]; omega
  dsimp only [ringRd, dutiesOf]
  rw [if_pos ⟨rfl, rfl⟩, if_pos h]
theorem duties_later (g : GSem nD τ sig) : ∀ r, 1 ≤ r → (ringRd pt).duties g r = ∅ :=
  fun r hr => if_neg fun h => by have := h.1; omega

theorem expect_bar : (ringRd pt).expect (barCell c) 0 = 2 := by
  unfold Schedule.expect Schedule.amountOf
  rw [duties_bar]; rfl
include hk in
theorem expect_send : (ringRd pt).expect (sendCell c k) 0 = N := by
  unfold Schedule.expect Schedule.amountOf; rw [duties_send pt c hk, Finset.sum_singleton]; rfl
include hk in
theorem expect_recv : (ringRd pt).expect (recvCell c k) 0 = N := by
  unfold Schedule.expect Schedule.amountOf; rw [duties_recv pt c hk, Finset.sum_singleton]; rfl

include hk in
theorem payload_send (d : Bool) : (ringRd pt).payload (sendCell c k) 0 d = sendPay pt c k := by
  show (if (sendS k).val < 20 then sendPay pt c ((sendS k).val - 6) else recvPay pt c ((sendS k).val - 20)) = _
  rw [sendS_val hk, if_pos (by omega), Nat.add_sub_cancel_left]
include hk in
theorem payload_recv (d : Bool) : (ringRd pt).payload (recvCell c k) 0 d = recvPay pt c k := by
  show (if (recvS k).val < 20 then sendPay pt c ((recvS k).val - 6) else recvPay pt c ((recvS k).val - 20)) = _
  rw [recvS_val hk, if_neg (by omega), Nat.add_sub_cancel_left]

/-- What the whole round of a barrier cell hands over, -/
theorem rest_bar : bigSep ((ringRd pt).duties (barCell c) 0 \ ∅) (fun d => (ringRd pt).payload (barCell c) 0 d) = iprop(emp ∗ barPay c) := by
  rw [Finset.sdiff_empty, duties_bar, bigSep_univ_eq_bigSepL [false, true] (by decide) (by decide), bigSepL_cons_cons, bigSepL_singleton]
  rfl
include hk in
/-- of a send cell, -/
theorem rest_send : bigSep ((ringRd pt).duties (sendCell c k) 0 \ ∅) (fun d => (ringRd pt).payload (sendCell c k) 0 d) = sendPay pt c k := by
  rw [Finset.sdiff_empty, duties_send pt c hk, bigSep_singleton, payload_send pt c hk]
include hk in
/-- and of a receive cell. -/
theorem rest_recv : bigSep ((ringRd pt).duties (recvCell c k) 0 \ ∅) (fun d => (ringRd pt).payload (recvCell c k) 0 d) = recvPay pt c k := by
  rw [Finset.sdiff_empty, duties_recv pt c hk, bigSep_singleton, payload_recv pt c hk]

end Schedule

/-! ## The chunks on their way around the ring -/

/-- An interval moved up by one. -/
theorem map_Ico (a b : ℕ) : (Finset.Ico a b).map (addRightEmbedding 1) = Finset.Ico (a + 1) (b + 1) := by
  ext j
  simp only [Finset.mem_map, Finset.mem_Ico, addRightEmbedding_apply]
  constructor
  · rintro ⟨i, hi, rfl⟩; omega
  · intro hj; exact ⟨j - 1, by omega, by omega⟩

/-- A summing transfer sends its own source chunk along with those in hand: they are what the next device then has in
    hand. -/
theorem hold_sum (c : Dev nD) {k : ℕ} (hk : k < 7) (f : OutV F) :
    iprop(chunkPts c (back c k) f ∗ hold c k) ⊢ (hold (nxt c) (k + 1) : sProp 𝕄) := by
  unfold hold
  rw [show Finset.Ico (max 1 (k + 1 - 6)) (min (k + 1 + 1) 8) = insert 1 (Finset.Ico 2 (k + 2)) from by
      ext j; simp only [Finset.mem_Ico, Finset.mem_insert]; omega,
    bigSep_insert (by simp), show Finset.Ico (max 1 (k - 6)) (min (k + 1) 8) = Finset.Ico 1 (k + 1) from by
      ext j; simp only [Finset.mem_Ico]; omega]
  rw [show Finset.Ico 2 (k + 2) = (Finset.Ico 1 (k + 1)).map (addRightEmbedding 1) from (map_Ico 1 (k + 1)).symm, bigSep_map]
  simp only [addRightEmbedding_apply, back_nxt]
  rw [back_zero]
  refine sep_mono_left ?_
  iintro Hc; iexists f; iexact Hc

/-- A spreading transfer writes the furthest of the chunks in hand, which is the next device's, and sends the others
    along. -/
theorem hold_spread (c : Dev nD) {k : ℕ} (hk : 7 ≤ k) (hk' : k < 14) :
    (hold c k : sProp 𝕄) ⊢ iprop((∃ f, chunkPts (nxt c) (back c k) f) ∗ hold (F := F) (nxt c) (k + 1)) := by
  unfold hold
  rw [show Finset.Ico (max 1 (k - 6)) (min (k + 1) 8) = insert 7 (Finset.Ico (k - 6) 7) from by
      ext j; simp only [Finset.mem_Ico, Finset.mem_insert]; omega,
    bigSep_insert (by simp), show Finset.Ico (max 1 (k + 1 - 6)) (min (k + 1 + 1) 8) = Finset.Ico (k - 6 + 1) (7 + 1) from by
      ext j; simp only [Finset.mem_Ico]; omega]
  rw [← map_Ico, bigSep_map]
  simp only [addRightEmbedding_apply, back_nxt]
  exact BI.Entails.refl _

/-! ## What each device owes at launch; the levels -/

/-- Device `c` owes the next device the landings of its transfers from number `k` on; -/
def owedFrom (c : Dev nD) (k : ℕ) : CellTallies nD τ sig Unit := ∑ j ∈ Finset.Ico k 14, tallyAt (recvCell (nxt c) j) () N
/-- at its barrier signals, those and the units of the signals. -/
def O₁ (c : Dev nD) : CellTallies nD τ sig Unit := owedFrom c 0 + tallyAt (barCell (nxt c)) () 1
def O₀ (c : Dev nD) : CellTallies nD τ sig Unit := O₁ c + tallyAt (barCell (prv c)) () 1

theorem owedFrom_succ (c : Dev nD) {k : ℕ} (hk : k < 14) :
    owedFrom c k = owedFrom c (k + 1) + tallyAt (recvCell (nxt c) k) () N := by
  unfold owedFrom
  rw [show Finset.Ico k 14 = insert k (Finset.Ico (k + 1) 14) from by ext j; simp only [Finset.mem_Ico, Finset.mem_insert]; omega,
    Finset.sum_insert (by simp), add_comm]
theorem owedFrom_end (c : Dev nD) : owedFrom c 14 = 0 := by unfold owedFrom; rw [Finset.Ico_self]; rfl

def L (g : GSem nD τ sig) : Finset Unit := if g.1.2 = .tc then {()} else ∅
/-- Barrier cells at 1, the receive cell of transfer `k` at `2 + k`, everything else at 0. -/
def lv (g : GSem nD τ sig) (_ : Unit) : ℕ := match g.2 with
  | .reg _ => 1
  | .dma q => if q.val < 20 then 0 else q.val - 18

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) {k : ℕ} (hk : k < 14) (u : Unit) : lv (recvCell c k) u = 2 + k := by
  show (if (recvS k).val < 20 then 0 else (recvS k).val - 18) = _
  rw [recvS_val hk, if_neg (by omega)]; omega

/-- Whom a device owes from transfer `k` on. -/
theorem owedFrom_pos {c : Dev nD} {k : ℕ} {g : GSem nD τ sig} {u : Unit} (h : 0 < owedFrom c k g u) :
    ∃ j, k ≤ j ∧ j < 14 ∧ g = recvCell (nxt c) j := by
  unfold owedFrom at h
  rw [Finset.sum_apply, Finsupp.finset_sum_apply] at h
  obtain ⟨j, hj, hpos⟩ := Finset.exists_ne_zero_of_sum_ne_zero (Nat.pos_iff_ne_zero.mp h)
  refine ⟨j, (Finset.mem_Ico.mp hj).1, (Finset.mem_Ico.mp hj).2, ?_⟩
  rw [tallyAt_apply] at hpos
  by_contra hn
  exact hpos (if_neg fun h' => hn h'.1)

theorem O₀_pos {c : Dev nD} {g : GSem nD τ sig} {u : Unit} (h : 0 < O₀ c g u) :
    (∃ j, j < 14 ∧ g = recvCell (nxt c) j) ∨ g = barCell (nxt c) ∨ g = barCell (prv c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨j, -, hj, hg⟩ := owedFrom_pos (c := c) (k := 0) (g := g) (u := u) (by simpa only [Nat.add_zero] using h)
  exact hn.1 ⟨j, hj, hg⟩

/-- A wait at a level no higher than `n` is allowed while owing the landings from transfer `k` on, when these are
    higher than `n`. -/
theorem mayWait_owed (c : Dev nD) (sm : SemLoc sig) {n k : ℕ} (hsm : lv ((c : Thread nD τ), sm) () ≤ n) (hn : n < 2 + k) :
    (levAts L lv : sProp 𝕄) ⊢ MayWait (c : Thread nD τ) sm () (owedFrom c k) :=
  MayOwe.of_cut (L := L) (lev := lv) n (fun p hp => by rw [Finset.mem_singleton.mp hp, L_tc]; exact Finset.mem_singleton_self _)
    (fun g u hg => by obtain ⟨j, -, -, rfl⟩ := owedFrom_pos hg; exact Finset.mem_singleton_self _)
    (fun p hp => by rw [Finset.mem_singleton.mp hp]; exact hsm)
    (fun g u hg => by
      obtain ⟨j, hkj, hj, rfl⟩ := owedFrom_pos hg
      rw [lv_recv _ hj]; omega)

/-- A wait on a staging cell is allowed at the launch's debts and at none. -/
theorem mayWait_stage (c : Dev nD) (q : DmaSem sig) (hq : q.val < 20) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, -, rfl⟩ | rfl | rfl <;> exact Finset.mem_singleton_self _)
      (fun p hp => by rw [Finset.mem_singleton.mp hp]; exact Nat.le_of_eq (if_pos hq))
      (fun g u hg => by
        rcases O₀_pos hg with ⟨j, hj, rfl⟩ | rfl | rfl
        · rw [lv_recv _ hj]; omega
        · exact Nat.one_pos
        · exact Nat.one_pos)
  · rw [MayWait_zero]; iintro -; iempintro

end Cert.KernelIdealProof

end
-- ==== Proof.KernelIdealHop.lean ====
/-
  One transfer of the ring, at a symbolic device and transfer number: what the device holds before and after it, and the
  rules its operations are run by.
-/
module

public import proofs.«01_k».proof.Proof.KernelIdealRing
public import Idealize.ShloMosaic.Lib.Pipeline.ValueKit.Geometry
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.ValueKit

variable {F : FTy → Type} [FloatOps F]

local notation "𝕄" => MT nD τ sig Unit (Elt F) ℕ UU ℕ

abbrev 𝒱₀ : Variants := Variants.none

/-! ## The views of a chunk and of a slot -/

/-- The view of the result buffer's chunk at offset `o`, -/
abbrev oSl (o : Fin 2 → ℕ) (h : ∀ a, o a + S128x1024.size a ≤ S1024x1024.size a) : Memref sig .tc .vmem S128x1024 .f32 :=
  oM.slice (Rect.unit (s := S1024x1024) o S128x1024.size h) (fun _ => rfl)
/-- and of the landing buffer's slot at offset `o`. -/
abbrev rSl (o : Fin 3 → ℕ) (h : ∀ a, o a + S1x128x1024.size a ≤ S7x128x1024.size a) : Memref sig .tc .vmem S128x1024 .f32 :=
  (rM.slice (Rect.unit (s := S7x128x1024) o S1x128x1024.size h) (fun _ => rfl)).squeeze S128x1024 squeezes_S1x128x1024_S128x1024

/-- Where an element of a chunk's view lies. -/
theorem oSl_emb {q : Dev nD} {o : Fin 2 → ℕ} (h) (ho : o = ![128 * q.val, 0]) (y : S128x1024.Idx) :
    (oSl o h).view.emb y = chunkIdx q (y 0) (y 1) := by
  subst ho
  funext a
  apply Fin.ext
  refine (view_emb_slice_whole_unit_val cc0_stg5_0 _ _ h y a).trans ?_
  fin_cases a
  · rfl
  · exact Nat.zero_add _

/-- Where an element of a slot's view lies. -/
theorem rSl_emb {k : ℕ} (hk : k < 7) {o : Fin 3 → ℕ} (h) (ho : o = ![k, 0, 0]) (y : S128x1024.Idx) :
    (rSl o h).view.emb y = (ix3 (⟨k, hk⟩ : Fin 7) (y 0) (y 1) : S7x128x1024.Idx) := by
  subst ho
  have hn : S128x1024.numel = S1x128x1024.numel := by decide
  have e : Shape.reshapeEquiv hn (ix2 (y 0) (y 1) : S128x1024.Idx) = (ix3 (⟨0, Nat.one_pos⟩ : Fin 1) (y 0) (y 1) : S1x128x1024.Idx) := reshapeEquiv_ix2_1ab hn (y 0) (y 1)
  have hy : y = (ix2 (y 0) (y 1) : S128x1024.Idx) := by funext a; apply Fin.ext; fin_cases a <;> rfl
  have e2 : (rSl ![k, 0, 0] h).view.emb y = ((View.whole cc0_scratch0).slice (Rect.unit (s := S7x128x1024) ![k, 0, 0] S1x128x1024.size h)).emb (Shape.reshapeEquiv hn y) := rfl
  rw [e2, hy, e]
  funext a
  apply Fin.ext
  refine (view_emb_slice_whole_unit_val cc0_scratch0 _ _ h _ a).trans ?_
  fin_cases a
  · rfl
  · exact Nat.zero_add _
  · exact Nat.zero_add _

/-- An index of chunk `q` is one of its view's. -/
theorem chunkIdx_of_mem {q : Dev nD} {x : S1024x1024.Idx} (hx : x ∈ chunkSet q.val) :
    ∃ y : S128x1024.Idx, x = chunkIdx q (y 0) (y 1) := by
  have h := mem_chunkSet.mp hx
  refine ⟨ix2 (⟨(x 0).val % 128, Nat.mod_lt _ (by decide)⟩ : Fin 128) (x 1), ?_⟩
  funext a
  apply Fin.ext
  fin_cases a
  · show (x 0).val = 128 * q.val + (x 0).val % 128
    omega
  · rfl

theorem chunkIdx_mem (q : Dev nD) (r : Fin 128) (l : Fin 1024) : chunkIdx q r l ∈ chunkSet q.val := by
  rw [mem_chunkSet]
  show (128 * q.val + r.val) / 128 = q.val
  have := r.isLt; omega

/-- The device a row of chunk `q` belongs to. -/
theorem rowDev_chunkIdx (q : Dev nD) (r : Fin 128) (l : Fin 1024) (j : ℕ) :
    rowDev (chunkIdx q r l 0).val j = ⟨(q.val + j) % 8, Nat.mod_lt _ (by decide)⟩ := by
  apply dev_ext
  show ((128 * q.val + r.val) / 128 + j) % 8 = _
  have := r.isLt
  rw [show (128 * q.val + r.val) / 128 = q.val from by omega]

theorem oSl_set {q : Dev nD} {o : Fin 2 → ℕ} (h) (ho : o = ![128 * q.val, 0]) : (oSl o h).view.set = chunkSet q.val := by
  ext x
  constructor
  · intro hx
    obtain ⟨y, -, rfl⟩ := Finset.mem_map.mp hx
    rw [oSl_emb h ho]; exact chunkIdx_mem q _ _
  · intro hx
    obtain ⟨y, rfl⟩ := chunkIdx_of_mem hx
    rw [← oSl_emb h ho]; exact Finset.mem_map_of_mem _ (Finset.mem_univ _)

theorem rSl_set {k : ℕ} (hk : k < 7) {o : Fin 3 → ℕ} (h) (ho : o = ![k, 0, 0]) : (rSl o h).view.set = slotSet k := by
  ext x
  constructor
  · intro hx
    obtain ⟨y, -, rfl⟩ := Finset.mem_map.mp hx
    rw [rSl_emb hk h ho, mem_slotSet]
  · intro hx
    have hx' := mem_slotSet.mp hx
    have : x = (rSl o h).view.emb (ix2 (x 1) (x 2) : S128x1024.Idx) := by
      rw [rSl_emb hk h ho]
      funext a
      apply Fin.ext
      fin_cases a
      · exact hx'
      · rfl
      · rfl
    rw [this]; exact Finset.mem_map_of_mem _ (Finset.mem_univ _)

/-- The points-to of a chunk through its view, -/
theorem chunkPts_view {c q : Dev nD} {o : Fin 2 → ℕ} (h) (ho : o = ![128 * q.val, 0]) (f : OutV F) :
    (chunkPts c q f : sProp 𝕄) = ((oSl o h).view.loc (c : Thread nD τ) ↦[(oSl o h).view.set]{fullShare} f) := by
  rw [oSl_set h ho]; rfl
/-- and of a slot. -/
theorem slotPts_view {c : Dev nD} {k : ℕ} (hk : k < 7) {o : Fin 3 → ℕ} (h) (ho : o = ![k, 0, 0]) (f : ComV F) :
    (slotPts c k f : sProp 𝕄) = ((rSl o h).view.loc (c : Thread nD τ) ↦[(rSl o h).view.set]{fullShare} f) := by
  rw [rSl_set hk h ho]; rfl

/-- Contents agreeing on a chunk are the same chunk's contents, -/
theorem chunkPts_congr {c q : Dev nD} {f g : OutV F} (h : ∀ y : S128x1024.Idx, f (chunkIdx q (y 0) (y 1)) = g (chunkIdx q (y 0) (y 1))) :
    (chunkPts c q f : sProp 𝕄) = chunkPts c q g := by
  unfold chunkPts
  refine pointsTo_congr fun x hx => ?_
  obtain ⟨y, rfl⟩ := chunkIdx_of_mem hx
  exact h y
/-- and on a slot. -/
theorem slotPts_congr {c : Dev nD} {k : ℕ} (hk : k < 7) {f g : ComV F}
    (h : ∀ y : S128x1024.Idx, f (ix3 (⟨k, hk⟩ : Fin 7) (y 0) (y 1)) = g (ix3 (⟨k, hk⟩ : Fin 7) (y 0) (y 1))) :
    (slotPts c k f : sProp 𝕄) = slotPts c k g := by
  unfold slotPts
  refine pointsTo_congr fun x hx => ?_
  have e : x = (ix3 (⟨k, hk⟩ : Fin 7) (x 1) (x 2) : S7x128x1024.Idx) := by
    funext a; apply Fin.ext; fin_cases a
    · exact mem_slotSet.mp hx
    · rfl
    · rfl
  rw [e]
  exact h (ix2 (x 1) (x 2))

/-! ## What a transfer writes -/

section Writes

variable (pt : Dev nD → OutV F) (c : Dev nD)

/-- A summing transfer fills its slot of the next device's landing buffer as that device's contents say. -/
theorem land_sum {k : ℕ} (hk : k < 7) {o : Fin 2 → ℕ} (h) (ho : o = ![128 * (back c k).val, 0]) {o' : Fin 3 → ℕ} (h') (ho' : o' = ![k, 0, 0])
    (fd : ComV F) :
    ((rSl o' h').view.loc (nxt c : Thread nD τ) ↦[(rSl o' h').view.set]{fullShare} ((rSl o' h').view.write (Elt F) fd ((oSl o h).view.read (Elt F) (acc pt k)) Finset.univ) : sProp 𝕄)
      = slotPts (nxt c) k (commC pt (nxt c)) := by
  refine (slotPts_view hk h' ho' _).symm.trans (slotPts_congr hk fun y => ?_)
  rw [← rSl_emb hk h' ho' y]
  refine (View.write_emb_of_mem _ _ (Finset.mem_univ _)).trans ?_
  rw [rSl_emb hk h' ho' y]
  show acc pt k ((oSl o h).view.emb y) = acc pt k (chunkIdx (back (nxt c) (k + 1)) (y 0) (y 1))
  rw [oSl_emb h ho, back_nxt]

/-- A spreading transfer copies its chunk. -/
theorem land_spread {q n : Dev nD} {o : Fin 2 → ℕ} (h) (ho : o = ![128 * q.val, 0]) (fd f : OutV F) :
    ((oSl o h).view.loc (n : Thread nD τ) ↦[(oSl o h).view.set]{fullShare} ((oSl o h).view.write (Elt F) fd ((oSl o h).view.read (Elt F) f) Finset.univ) : sProp 𝕄)
      = chunkPts n q f := by
  refine (chunkPts_view h ho _).symm.trans (chunkPts_congr fun y => ?_)
  rw [← oSl_emb h ho y]
  exact (View.write_emb_of_mem _ _ (Finset.mem_univ _)).trans rfl

/-- Adding what arrived to the chunk it arrived for makes the next sum. -/
theorem acc_succ {k : ℕ} (hk : k < 7) (y : S128x1024.Idx) :
    FloatOps.addf (pt c (chunkIdx (back c (k + 1)) (y 0) (y 1))) (commC pt c (ix3 (⟨k, hk⟩ : Fin 7) (y 0) (y 1)))
      = acc pt (k + 1) (chunkIdx (back c (k + 1)) (y 0) (y 1)) := by
  have e : rowDev (chunkIdx (back c (k + 1)) (y 0) (y 1) 0).val (k + 1) = c := by
    refine (rowDev_chunkIdx (back c (k + 1)) (y 0) (y 1) (k + 1)).trans (dev_ext ?_)
    show ((c.val + 7 * (k + 1)) % 8 + (k + 1)) % 8 = c.val
    have := dev_lt c; omega
  show _ = FloatOps.addf (pt (rowDev (chunkIdx (back c (k + 1)) (y 0) (y 1) 0).val (k + 1)) _) (acc pt k _)
  rw [e]
  rfl

end Writes

/-! ## The loads and the store of a chunk -/

section Access

variable {c : Dev nD}

/-- The elements a chunk's rectangle reaches are the chunk's, -/
theorem access_chunk {q : Dev nD} {o : Fin 2 → ℕ} (h) (ho : o = ![128 * q.val, 0]) :
    ((oM : Memref sig .tc .vmem S1024x1024 .f32).access (Rect.unit (s := S1024x1024) o S128x1024.size h)).set ⊆ chunkSet q.val := by
  intro x hx
  rw [← oSl_set h ho]; exact hx
/-- and those a slot's rectangle reaches are the slot's. -/
theorem access_slot {j : ℕ} (hj : j < 7) {o : Fin 3 → ℕ} (h) (ho : o = ![j, 0, 0]) :
    ((rM : Memref sig .tc .vmem S7x128x1024 .f32).access (Rect.unit (s := S7x128x1024) o S1x128x1024.size h)).set ⊆ slotSet j := by
  intro x hx
  rw [← rSl_set hj h ho]
  exact (View.set_reshape ((rM.slice (Rect.unit (s := S7x128x1024) o S1x128x1024.size h) (fun _ => rfl)).view) squeezes_S1x128x1024_S128x1024.numel_eq).symm ▸ hx

/-- What reading chunk `q` gives, -/
def readC (q : Dev nD) (f : OutV F) : S128x1024.Idx → Elt F .f32 := fun y => f (chunkIdx q (y 0) (y 1))
/-- and what reading slot `j` gives. -/
def readS (j : ℕ) (hj : j < 7) (f : ComV F) : S1x128x1024.Idx → Elt F .f32 := fun y => f (ix3 (⟨j, hj⟩ : Fin 7) (y 1) (y 2))

theorem read_chunk {q : Dev nD} {o : Fin 2 → ℕ} {h} (ho : o = ![128 * q.val, 0]) (f : OutV F) :
    ((oM : Memref sig .tc .vmem S1024x1024 .f32).access (Rect.unit (s := S1024x1024) o S128x1024.size h)).read (Elt F) f = readC q f := by
  funext y
  exact congrArg f (oSl_emb h ho y)

theorem read_slot {j : ℕ} (hj : j < 7) {o : Fin 3 → ℕ} {h} (ho : o = ![j, 0, 0]) (f : ComV F) :
    ((rM : Memref sig .tc .vmem S7x128x1024 .f32).access (Rect.unit (s := S7x128x1024) o S1x128x1024.size h)).read (Elt F) f = readS j hj f := by
  subst ho
  funext y
  refine congrArg f (funext fun a => Fin.ext ?_)
  refine (view_emb_slice_whole_unit_val cc0_scratch0 _ _ h y a).trans ?_
  fin_cases a
  · show j + (y 0).val = j
    have h0 : (y 0).val < 1 := (y 0).isLt
    omega
  · exact Nat.zero_add _
  · exact Nat.zero_add _

/-- Reading a chunk of the result buffer. -/
theorem load_chunk {α : Type} {Q : α → sProp 𝕄} {q : Dev nD} {o : Fin 2 → ℕ} {h} (ho : o = ![128 * q.val, 0]) (f : OutV F)
    {hl : (oM : Memref sig .tc .vmem S1024x1024 .f32).view.LoadsAt (Rect.unit (s := S1024x1024) o S128x1024.size h).toLoadRect}
    {k : (S128x1024.Idx → Elt F .f32) → Prog (TpuEff nD τ sig (Elt F) Λ₀ .tc) α} :
    (chunkPts c q f : sProp 𝕄)
      ⊢ iprop((chunkPts c q f -∗ wp frame (wpE (defs₀ (F := F)) 𝒱₀ (c : Thread nD τ) none) Set.univ (k (readC q f)) Q)
        -∗ wp frame (wpE (defs₀ (F := F)) 𝒱₀ (c : Thread nD τ) none) Set.univ
            (.op (.load oM (Rect.unit (s := S1024x1024) o S128x1024.size h).toLoadRect hl) k) Q) := by
  rw [← read_chunk (h := h) ho f]
  unfold chunkPts
  exact wp_load_rect (Γ := []) (Q := Q) (k := k) (hl := hl) 𝒱₀ (c : Thread nD τ) none Set.univ (m := oM) (r := Rect.unit (s := S1024x1024) o S128x1024.size h)
    (S := chunkSet q.val) (f := f) (access_chunk h ho)

/-- Reading a slot of the landing buffer. -/
theorem load_slot {α : Type} {Q : α → sProp 𝕄} {j : ℕ} (hj : j < 7) {o : Fin 3 → ℕ} {h} (ho : o = ![j, 0, 0]) (f : ComV F)
    {hl : (rM : Memref sig .tc .vmem S7x128x1024 .f32).view.LoadsAt (Rect.unit (s := S7x128x1024) o S1x128x1024.size h).toLoadRect}
    {k : (S1x128x1024.Idx → Elt F .f32) → Prog (TpuEff nD τ sig (Elt F) Λ₀ .tc) α} :
    (slotPts c j f : sProp 𝕄)
      ⊢ iprop((slotPts c j f -∗ wp frame (wpE (defs₀ (F := F)) 𝒱₀ (c : Thread nD τ) none) Set.univ (k (readS j hj f)) Q)
        -∗ wp frame (wpE (defs₀ (F := F)) 𝒱₀ (c : Thread nD τ) none) Set.univ
            (.op (.load rM (Rect.unit (s := S7x128x1024) o S1x128x1024.size h).toLoadRect hl) k) Q) := by
  rw [← read_slot hj (h := h) ho f]
  unfold slotPts
  exact wp_load_rect (Γ := []) (Q := Q) (k := k) (hl := hl) 𝒱₀ (c : Thread nD τ) none Set.univ (m := rM) (r := Rect.unit (s := S7x128x1024) o S1x128x1024.size h)
    (S := slotSet j) (f := f) (access_slot hj h ho)

/-- A chunk written with contents that are `g`'s there. -/
theorem write_chunk {q : Dev nD} {o : Fin 2 → ℕ} {h} (ho : o = ![128 * q.val, 0]) (f g : OutV F) {w : S128x1024.Idx → Elt F .f32}
    (hw : ∀ y : S128x1024.Idx, w y = readC q g y) :
    (chunkPts c q ((oM.access (Rect.unit (s := S1024x1024) o S128x1024.size h)).write (Elt F) f w Finset.univ) : sProp 𝕄) = chunkPts c q g :=
  chunkPts_congr fun y => by
    rw [← oSl_emb h ho y]
    refine (View.write_emb_of_mem (Val := Elt F) (v := (oSl o h).view) f w (Finset.mem_univ y)).trans ?_
    rw [oSl_emb h ho y]
    exact hw y

/-- Writing a chunk of the result buffer with contents that are `g`'s there. -/
theorem store_chunk {α : Type} {Q : α → sProp 𝕄} {q : Dev nD} {o : Fin 2 → ℕ} {h} (ho : o = ![128 * q.val, 0]) (f g : OutV F) {w : S128x1024.Idx → Elt F .f32}
    {hx : ((oM : Memref sig .tc .vmem S1024x1024 .f32).access (Rect.unit (s := S1024x1024) o S128x1024.size h)).Stores Finset.univ}
    {hm : (Finset.univ : Finset (Rect.unit (s := S1024x1024) o S128x1024.size h).shape.Idx) = Finset.univ ∨ ∀ a, (Rect.unit (s := S1024x1024) o S128x1024.size h).stride a = 1}
    (hw : ∀ y : S128x1024.Idx, w y = readC q g y)
    {k : PUnit → Prog (TpuEff nD τ sig (Elt F) Λ₀ .tc) α} :
    (chunkPts c q f : sProp 𝕄)
      ⊢ iprop((chunkPts c q g -∗ wp frame (wpE (defs₀ (F := F)) 𝒱₀ (c : Thread nD τ) none) Set.univ (k ⟨⟩) Q)
        -∗ wp frame (wpE (defs₀ (F := F)) 𝒱₀ (c : Thread nD τ) none) Set.univ
            (.op (.store oM (Rect.unit (s := S1024x1024) o S128x1024.size h) w Finset.univ hx hm) k) Q) := by
  rw [← write_chunk (c := c) (h := h) ho f g hw]
  unfold chunkPts
  refine wp_store (Γ := []) (Q := Q) (k := k) 𝒱₀ (c : Thread nD τ) none Set.univ (m := oM) (r := Rect.unit (s := S1024x1024) o S128x1024.size h) (Mk := Finset.univ)
    (S := chunkSet q.val) (f := f) (hx := hx) (hm := hm) ?_
  exact access_chunk h ho

end Access

end Cert.KernelIdealProof

end
-- ==== Proof.KernelIdealStep.lean ====
/-
  What a device holds between its transfers, and one transfer of either phase as a single rule: the transfer itself, the
  wait for its read-out, the wait for the transfer arriving, and in the summing phase the addition.
-/
module

public import proofs.«01_k».proof.Proof.KernelIdealHop

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## What every device knows of every cell -/

/-- The number of transfer `k`'s send cell among a device's cells, -/
abbrev sIx (k : ℕ) : Fin 29 := Fin.ofNat 29 (1 + k)
/-- and of its receive cell. -/
abbrev rIx (k : ℕ) : Fin 29 := Fin.ofNat 29 (15 + k)

theorem kcell_send (c : Dev nD) {k : ℕ} (hk : k < 14) : kcell (c, sIx k) = sendCell c k := by
  have h : (sIx k).val = 1 + k := Nat.mod_eq_of_lt (by omega)
  show ((c : Thread nD τ), csem (sIx k)) = _
  unfold csem
  rw [h, if_neg (by omega), show 1 + k + 5 = 6 + k from by omega]
theorem kcell_recv (c : Dev nD) {k : ℕ} (hk : k < 14) : kcell (c, rIx k) = recvCell c k := by
  have h : (rIx k).val = 15 + k := Nat.mod_eq_of_lt (by omega)
  show ((c : Thread nD τ), csem (rIx k)) = _
  unfold csem
  rw [h, if_neg (by omega), show 15 + k + 5 = 20 + k from by omega]

section Steps

variable (pt : Dev nD → OutV F) (K : Dev nD × Fin 29 → ℕ)

/-- Every cell's invariant is in force and every cell has reached its round; the levels of the cells are as planned. -/
def records : sProp 𝕄 :=
  iprop((bigSep Finset.univ fun ck : Dev nD × Fin 29 => cellInv ER (ringRd pt) (K ck) (kcell ck))
    ∗ bigSep Finset.univ fun ck : Dev nD × Fin 29 => reached ER (kcell ck) 0)
def recs : sProp 𝕄 := iprop(records pt K ∗ levAts L lv)

instance records_persistent : BI.Persistent (records pt K) := by unfold records; infer_instance
instance recs_persistent : BI.Persistent (recs pt K) := by unfold recs; infer_instance

/-- One of a family held of every cell. -/
theorem of_all (Φ : Dev nD × Fin 29 → sProp 𝕄) (ck : Dev nD × Fin 29) : bigSep Finset.univ Φ ⊢ Φ ck := bigSep_elim (Finset.mem_univ ck)
theorem inv_at (ck : Dev nD × Fin 29) : recs pt K ⊢ cellInv ER (ringRd pt) (K ck) (kcell ck) := by
  unfold recs records
  iintro ⟨⟨H, -⟩, -⟩
  iapply (of_all (fun ck : Dev nD × Fin 29 => cellInv ER (ringRd pt) (K ck) (kcell ck)) ck)
  iexact H
theorem reached_at (ck : Dev nD × Fin 29) : recs pt K ⊢ reached ER (kcell ck) 0 := by
  unfold recs records
  iintro ⟨⟨-, H⟩, -⟩
  iapply (of_all (fun ck : Dev nD × Fin 29 => (reached ER (kcell ck) 0 : sProp 𝕄)) ck)
  iexact H
theorem levs_at : recs pt K ⊢ levAts L lv := by
  unfold recs; iintro ⟨-, H⟩; iexact H
theorem inv_send (c : Dev nD) {k : ℕ} (hk : k < 14) : recs pt K ⊢ cellInv ER (ringRd pt) (K (c, sIx k)) (sendCell c k) := by
  rw [← kcell_send c hk]; exact inv_at pt K (c, sIx k)
theorem inv_recv (c : Dev nD) {k : ℕ} (hk : k < 14) : recs pt K ⊢ cellInv ER (ringRd pt) (K (c, rIx k)) (recvCell c k) := by
  rw [← kcell_recv c hk]; exact inv_at pt K (c, rIx k)
theorem reached_send (c : Dev nD) {k : ℕ} (hk : k < 14) : recs pt K ⊢ reached ER (sendCell c k) 0 := by
  rw [← kcell_send c hk]; exact reached_at pt K (c, sIx k)
theorem reached_recv (c : Dev nD) {k : ℕ} (hk : k < 14) : recs pt K ⊢ reached ER (recvCell c k) 0 := by
  rw [← kcell_recv c hk]; exact reached_at pt K (c, rIx k)

/-! ## The state between transfers -/

/-- What device `c` needs for its transfer `j` besides memory. -/
def hopG (c : Dev nD) (j : ℕ) : sProp 𝕄 :=
  iprop(dutyTok ER (sendCell c j) 0 false ∗ dutyTok ER (recvCell (nxt c) j) 0 false
    ∗ atPos ER (sendCell c j) 0 ∅ 0 ∗ atPos ER (recvCell c j) 0 ∅ 0 ∗ cred (tallyAt (recvCell c j) () N))
/-- What it has of it afterwards. -/
def doneG (c : Dev nD) (j : ℕ) : sProp 𝕄 := iprop(semVal (sendCell c j) 0 ∗ semVal (recvCell c j) 0)

/-- Device `c`'s debts and semaphores before its transfer `k`, -/
def ctrl (c : Dev nD) (k : ℕ) : sProp 𝕄 :=
  iprop((∃ W, owes (c : Thread nD τ) (owedFrom c k) W) ∗ bigSep (Finset.Ico k 14) (hopG c) ∗ bigSep (Finset.range k) (doneG c))
/-- after issuing it, -/
def ctrl₁ (c : Dev nD) (k : ℕ) : sProp 𝕄 :=
  iprop((∃ W, owes (c : Thread nD τ) (owedFrom c (k + 1)) W) ∗ cred (tallyAt (sendCell c k) () N)
    ∗ (atPos ER (sendCell c k) 0 ∅ 0 ∗ atPos ER (recvCell c k) 0 ∅ 0 ∗ cred (tallyAt (recvCell c k) () N))
    ∗ bigSep (Finset.Ico (k + 1) 14) (hopG c) ∗ bigSep (Finset.range k) (doneG c))
/-- and after waiting for its read-out. -/
def ctrl₂ (c : Dev nD) (k : ℕ) : sProp 𝕄 :=
  iprop((∃ W, owes (c : Thread nD τ) (owedFrom c (k + 1)) W) ∗ semVal (sendCell c k) 0
    ∗ (atPos ER (recvCell c k) 0 ∅ 0 ∗ cred (tallyAt (recvCell c k) () N))
    ∗ bigSep (Finset.Ico (k + 1) 14) (hopG c) ∗ bigSep (Finset.range k) (doneG c))

theorem Ico_insert {a b : ℕ} (h : a < b) : Finset.Ico a b = insert a (Finset.Ico (a + 1) b) := by
  ext j; simp only [Finset.mem_Ico, Finset.mem_insert]; omega
theorem range_insert (k : ℕ) : Finset.range (k + 1) = insert k (Finset.range k) := by
  ext j; simp only [Finset.mem_range, Finset.mem_insert]; omega

/-- The first of the things held from `a` on, taken out. -/
theorem bigSep_Ico_first {a b : ℕ} (h : a < b) (Φ : ℕ → sProp 𝕄) :
    bigSep (Finset.Ico a b) Φ = iprop(Φ a ∗ bigSep (Finset.Ico (a + 1) b) Φ) := by
  rw [Ico_insert h, bigSep_insert (by simp)]; rfl
/-- One more of the things held up to `k`. -/
theorem bigSep_range_last (k : ℕ) (Φ : ℕ → sProp 𝕄) :
    bigSep (Finset.range (k + 1)) Φ = iprop(Φ k ∗ bigSep (Finset.range k) Φ) := by
  rw [range_insert k, bigSep_insert (by simp)]; rfl
theorem bigSep_Ico_last {a b : ℕ} (h : a ≤ b) (Φ : ℕ → sProp 𝕄) :
    bigSep (Finset.Ico a (b + 1)) Φ = iprop(Φ b ∗ bigSep (Finset.Ico a b) Φ) := by
  rw [show Finset.Ico a (b + 1) = insert b (Finset.Ico a b) from by ext j; simp only [Finset.mem_Ico, Finset.mem_insert]; omega,
    bigSep_insert (by simp)]; rfl

/-- Device `c`'s memory before its summing transfer `k`: the chunk it sends, summed so far, its own partial results of
    the chunks still to come, the chunks of devices further back, the next device's slots still to be filled, and its own
    filled slots. -/
def sumRest (c : Dev nD) (k : ℕ) : sProp 𝕄 := bigSep (Finset.Ico k 8) fun j => chunkPts c (back c j) (pt c)
def slotsOut (c : Dev nD) (k : ℕ) : sProp 𝕄 := bigSep (Finset.Ico k 7) fun h => iprop(∃ f, slotPts (nxt c) h f)
def slotsIn (c : Dev nD) (k : ℕ) : sProp 𝕄 := bigSep (Finset.range k) fun h => slotPts c h (commC pt c)
def sumSt (c : Dev nD) (k : ℕ) : sProp 𝕄 :=
  iprop(chunkPts c (back c k) (acc pt k) ∗ sumRest pt c (k + 1) ∗ hold c k ∗ slotsOut c k ∗ slotsIn pt c k ∗ ctrl c k)

/-- Device `c`'s memory before its spreading transfer `k`: the chunks whose sum it has, the chunks of devices further
    back, its filled slots. -/
def spreadSt (c : Dev nD) (k : ℕ) : sProp 𝕄 :=
  iprop((bigSep (Finset.Ico 7 (k + 1)) fun j => chunkPts c (back c j) (acc pt 7)) ∗ hold c k ∗ slotsIn pt c 7 ∗ ctrl c k)

/-- After the last summing transfer the spreading begins. -/
theorem sum_to_spread (c : Dev nD) : sumSt pt c 7 ⊢ spreadSt pt c 7 := by
  unfold sumSt spreadSt
  iintro ⟨Hc, -, Hh, -, Hs, Hct⟩
  isplitl [Hc]
  · rw [bigSep_Ico_first (by omega)]
    isplitl [Hc]; · iexact Hc
    rw [show Finset.Ico (7 + 1) (7 + 1) = ∅ from Finset.Ico_self _, bigSep_empty]; iempintro
  isplitl [Hh]; · iexact Hh
  isplitl [Hs]; · iexact Hs
  iexact Hct

variable {c : Dev nD} {k : ℕ}

/-- The wait for the read-out of transfer `k`. -/
theorem wait_send {α : Type} {Q : α → sProp 𝕄} (hk : k < 14) {s : DmaSem sig} (hs : s = sendS k) {sp sp' : Space} {sh sh' : Shape} {e e' : EltTy}
    {src : Memref sig .tc sp' sh' e'} {dst : Memref sig .tc sp sh e} {hsrc : src.view.WordExact} {hdst : dst.view.WordExact}
    (hN : dst.view.dmaCredit = N) {kk : PUnit → Prog (TpuEff nD τ sig (Elt F) Λ₀ .tc) α} :
    iprop(recs pt K ∗ ctrl₁ c k)
      ⊢ iprop(((ctrl₂ c k ∗ sendPay pt c k) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 s src dst hsrc hdst) kk) Q) := by
  subst hs
  unfold ctrl₁
  iintro ⟨#Hr, ⟨%W, HO⟩, Hc, ⟨HaS, HaR⟩, Hrest⟩ Hk
  iapply (Rounds.wp_wait_rest_token (Γ := []) 𝒱₀ ER (ringRd pt) (c : Thread nD τ) none (κ := K (c, sIx k))
      (wpE_waitDma2_eq 𝒱₀ (c : Thread nD τ) none Set.univ) (Set.mem_univ _) () (O := owedFrom c (k + 1)) (W := W) (R := 0) (m := 0) (T := ∅)
      (by rw [Nat.zero_add, expect_send pt c hk, hN])) $$ [HO Hc HaS]
  · isplitr; · iapply (inv_send pt K c hk); iexact Hr
    isplitl [Hc]; · rw [hN]; iexact Hc
    isplitl [HO]; · iexact HO
    isplitr
    · iapply (mayWait_owed c (.dma (sendS k)) (n := 0) (k := k + 1)
        (Nat.le_of_eq (if_pos (by rw [sendS_val hk]; omega))) (by omega))
      iapply (levs_at pt K); iexact Hr
    iexact HaS
  iintro ⟨HO, HaS, -, Hpay⟩
  ihave Hpay := (Entails.of_eq (rest_send pt c hk)) $$ Hpay
  imod (Rounds.cell_close ER (ringRd pt) (Set.mem_univ (K (c, sIx k))) (fun h => h) (R := 0 + 1) (duties_later pt (sendCell c k))) $$ [HaS] with HzS
  · isplitr; · iapply (inv_send pt K c hk); iexact Hr
    iexact HaS
  iapply Hk
  unfold ctrl₂
  isplitr [Hpay]
  · isplitl [HO]; · iexists _; iexact HO
    isplitl [HzS]; · iexact HzS
    isplitl [HaR]; · iexact HaR
    iexact Hrest
  iexact Hpay

/-- The wait for the transfer `k` arriving. -/
theorem wait_recv {α : Type} {Q : α → sProp 𝕄} (hk : k < 14) {s : DmaSem sig} (hs : s = recvS k) {sp sp' : Space} {sh sh' : Shape} {e e' : EltTy}
    {src : Memref sig .tc sp' sh' e'} {dst : Memref sig .tc sp sh e} {hsrc : src.view.WordExact} {hdst : dst.view.WordExact}
    (hN : dst.view.dmaCredit = N) {kk : PUnit → Prog (TpuEff nD τ sig (Elt F) Λ₀ .tc) α} :
    iprop(recs pt K ∗ ctrl₂ c k)
      ⊢ iprop(((ctrl c (k + 1) ∗ recvPay pt c k) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 s src dst hsrc hdst) kk) Q) := by
  subst hs
  unfold ctrl₂
  iintro ⟨#Hr, ⟨%W, HO⟩, HzS, ⟨HaR, Hc⟩, Hhop, Hdone⟩ Hk
  iapply (Rounds.wp_wait_rest_token (Γ := []) 𝒱₀ ER (ringRd pt) (c : Thread nD τ) none (κ := K (c, rIx k))
      (wpE_waitDma2_eq 𝒱₀ (c : Thread nD τ) none Set.univ) (Set.mem_univ _) () (O := owedFrom c (k + 1)) (W := W) (R := 0) (m := 0) (T := ∅)
      (by rw [Nat.zero_add, expect_recv pt c hk, hN])) $$ [HO Hc HaR]
  · isplitr; · iapply (inv_recv pt K c hk); iexact Hr
    isplitl [Hc]; · rw [hN]; iexact Hc
    isplitl [HO]; · iexact HO
    isplitr
    · iapply (mayWait_owed c (.dma (recvS k)) (n := 2 + k) (k := k + 1) (le_of_eq (lv_recv c hk ())) (by omega))
      iapply (levs_at pt K); iexact Hr
    iexact HaR
  iintro ⟨HO, HaR, -, Hpay⟩
  ihave Hpay := (Entails.of_eq (rest_recv pt c hk)) $$ Hpay
  imod (Rounds.cell_close ER (ringRd pt) (Set.mem_univ (K (c, rIx k))) (fun h => h) (R := 0 + 1) (duties_later pt (recvCell c k))) $$ [HaR] with HzR
  · isplitr; · iapply (inv_recv pt K c hk); iexact Hr
    iexact HaR
  iapply Hk
  unfold ctrl
  isplitr [Hpay]
  · isplitl [HO]; · iexists _; iexact HO
    isplitl [Hhop]; · iexact Hhop
    rw [bigSep_range_last k]
    isplitr [Hdone]
    · unfold doneG
      isplitl [HzS]; · iexact HzS
      iexact HzR
    iexact Hdone
  iexact Hpay

/-- A summing transfer: its source goes with the landing. -/
theorem send_sum {α : Type} {Q : α → sProp 𝕄} (hk : k < 7) {o : Fin 2 → ℕ} {h} (ho : o = ![128 * (back c k).val, 0]) {o' : Fin 3 → ℕ} {h'} (ho' : o' = ![k, 0, 0])
    {n : Dev nD} (hn : n = nxt c) {s s' : DmaSem sig} (hs : s = sendS k) (hs' : s' = recvS k)
    {hsc : (rSl o' h' : Memref sig (Dev.tc n : Thread nD τ).2.kind .vmem S128x1024 .f32).view.ref.isScScratch = false}
    {hsrc : (oSl o h).view.WordExact} {hdst : (rSl o' h').view.WordExact}
    {hsem : DmaTarget.Typed .vmem (.dma s') (.remote (Dev.tc n : Thread nD τ) (rSl o' h' : Memref sig (Dev.tc n : Thread nD τ).2.kind .vmem S128x1024 .f32) (.dma s) hsc)}
    {kk : PUnit → Prog (TpuEff nD τ sig (Elt F) Λ₀ .tc) α} :
    iprop(recs pt K ∗ sumSt pt c k)
      ⊢ iprop(((sumRest pt c (k + 1) ∗ slotsOut c (k + 1) ∗ slotsIn pt c k ∗ ctrl₁ c k)
            -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma (oSl o h) (.remote (Dev.tc n : Thread nD τ) (rSl o' h') (.dma s) hsc) (.dma s') hsrc hdst hsem) kk) Q) := by
  subst hn hs hs'
  have hk' : k < 14 := by omega
  unfold sumSt ctrl slotsOut
  rw [bigSep_Ico_first hk (fun h => iprop(∃ f, slotPts (nxt c) h f)), bigSep_Ico_first hk' (hopG c)]
  iintro ⟨#Hr, Hch, Hrest, Hhold, Hout, Hin, ⟨%W, HO⟩, Hhop, Hdone⟩ Hk
  icases Hout with ⟨⟨%fd, Hslot⟩, Hout⟩
  icases Hhop with ⟨Hg, Hhop⟩
  unfold hopG
  icases Hg with ⟨HtS, HtR, HaS, HaR, HcR⟩
  iapply (Rounds.wp_send_landing_pointsTo_with (Γ := []) 𝒱₀ ER (ringRd pt) (c : Thread nD τ) none (κ₁ := K (c, sIx k)) (κ₂ := K (nxt c, rIx k))
    (c' := (nxt c : Thread nD τ)) (src := oSl o h) (dst := rSl o' h') (F := hold c k) (q := fullShare) (fs := acc pt k)
    (r₁ := 0) (r₂ := 0) (d₁ := false) (d₂ := false) (fd := fd)
    (by rw [duties_send pt c hk']; exact Finset.mem_singleton_self _) (by rw [duties_recv pt (nxt c) hk']; exact Finset.mem_singleton_self _)
    () () N rfl rfl rfl (owedFrom c (k + 1)) (owedFrom_succ c hk') (W := W)
    (by rw [payload_send pt c hk']; unfold sendPay; rw [if_pos hk])
    (by
      rw [payload_recv pt (nxt c) hk']
      unfold recvPay landed
      rw [if_pos hk, land_sum pt c hk h ho h' ho' fd, ← chunkPts_view h ho]
      iintro ⟨⟨Hs, Hh⟩, Hc⟩
      isplitl [Hs]; · iexact Hs
      iapply (hold_sum c hk (acc pt k))
      isplitl [Hc]; · iexact Hc
      iexact Hh)) $$ [Hch Hslot Hhold HO HtS HtR]
  · isplitr; · iapply (inv_send pt K c hk'); iexact Hr
    isplitr; · iapply (inv_recv pt K (nxt c) hk'); iexact Hr
    isplitl [Hch]; · rw [← chunkPts_view h ho]; iexact Hch
    isplitl [Hslot Hhold]
    · isplitl [Hslot]; · rw [← slotPts_view hk h' ho']; iexact Hslot
      iexact Hhold
    isplitl [HO]; · iexact HO
    isplitl [HtS]; · iexact HtS
    isplitr; · iapply (reached_send pt K c hk'); iexact Hr
    isplitl [HtR]; · iexact HtR
    iapply (reached_recv pt K (nxt c) hk'); iexact Hr
  iintro ⟨HcS, HO⟩
  iapply Hk
  isplitl [Hrest]; · iexact Hrest
  isplitl [Hout]; · iexact Hout
  isplitl [Hin]; · iexact Hin
  unfold ctrl₁
  isplitl [HO]; · iexists _; iexact HO
  isplitl [HcS]; · iexact HcS
  isplitl [HaS HaR HcR]
  · isplitl [HaS]; · iexact HaS
    isplitl [HaR]; · iexact HaR
    iexact HcR
  isplitl [Hhop]; · iexact Hhop
  iexact Hdone

/-- A spreading transfer: its source comes back with the read-out. -/
theorem send_spread {α : Type} {Q : α → sProp 𝕄} (hk₀ : 7 ≤ k) (hk : k < 14) {o : Fin 2 → ℕ} {h} (ho : o = ![128 * (back c k).val, 0])
    {n : Dev nD} (hn : n = nxt c) {s s' : DmaSem sig} (hs : s = sendS k) (hs' : s' = recvS k)
    {hsc : (oSl o h : Memref sig (Dev.tc n : Thread nD τ).2.kind .vmem S128x1024 .f32).view.ref.isScScratch = false}
    {hsrc : (oSl o h).view.WordExact} {hdst : (oSl o h).view.WordExact}
    {hsem : DmaTarget.Typed .vmem (.dma s') (.remote (Dev.tc n : Thread nD τ) (oSl o h : Memref sig (Dev.tc n : Thread nD τ).2.kind .vmem S128x1024 .f32) (.dma s) hsc)}
    {kk : PUnit → Prog (TpuEff nD τ sig (Elt F) Λ₀ .tc) α} :
    iprop(recs pt K ∗ spreadSt pt c k)
      ⊢ iprop((((bigSep (Finset.Ico 7 k) fun j => chunkPts c (back c j) (acc pt 7)) ∗ slotsIn pt c 7 ∗ ctrl₁ c k)
            -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma (oSl o h) (.remote (Dev.tc n : Thread nD τ) (oSl o h) (.dma s) hsc) (.dma s') hsrc hdst hsem) kk) Q) := by
  subst hn hs hs'
  unfold spreadSt ctrl
  rw [bigSep_Ico_last hk₀, bigSep_Ico_first hk (hopG c)]
  iintro ⟨#Hr, ⟨Hch, Hrest⟩, Hhold, Hin, ⟨%W, HO⟩, Hhop, Hdone⟩ Hk
  ihave Hhold := (hold_spread c hk₀ hk) $$ Hhold
  icases Hhold with ⟨⟨%fd, Hdst⟩, Hhold⟩
  icases Hhop with ⟨Hg, Hhop⟩
  unfold hopG
  icases Hg with ⟨HtS, HtR, HaS, HaR, HcR⟩
  iapply (Rounds.wp_send_pointsTo_with (Γ := []) 𝒱₀ ER (ringRd pt) (c : Thread nD τ) none (κ₁ := K (c, sIx k)) (κ₂ := K (nxt c, rIx k))
    (c' := (nxt c : Thread nD τ)) (src := oSl o h) (dst := oSl o h) (F := hold (nxt c) (k + 1)) (q := fullShare) (fs := acc pt 7)
    (r₁ := 0) (r₂ := 0) (d₁ := false) (d₂ := false) (fd := fd)
    (by rw [duties_send pt c hk]; exact Finset.mem_singleton_self _) (by rw [duties_recv pt (nxt c) hk]; exact Finset.mem_singleton_self _)
    () () N rfl rfl rfl (owedFrom c (k + 1)) (owedFrom_succ c hk) (W := W)
    (by rw [payload_send pt c hk]; unfold sendPay; rw [if_neg (by omega), ← chunkPts_view h ho])
    (by
      rw [payload_recv pt (nxt c) hk]
      unfold recvPay landed
      rw [if_neg (by omega), land_spread h ho fd (acc pt 7), back_nxt])) $$ [Hch Hdst Hhold HO HtS HtR]
  · isplitr; · iapply (inv_send pt K c hk); iexact Hr
    isplitr; · iapply (inv_recv pt K (nxt c) hk); iexact Hr
    isplitl [Hch]; · rw [← chunkPts_view h ho]; iexact Hch
    isplitl [Hdst Hhold]
    · isplitl [Hdst]; · rw [← chunkPts_view h ho]; iexact Hdst
      iexact Hhold
    isplitl [HO]; · iexact HO
    isplitl [HtS]; · iexact HtS
    isplitr; · iapply (reached_send pt K c hk); iexact Hr
    isplitl [HtR]; · iexact HtR
    iapply (reached_recv pt K (nxt c) hk); iexact Hr
  iintro ⟨HcS, HO⟩
  iapply Hk
  isplitl [Hrest]; · iexact Hrest
  isplitl [Hin]; · iexact Hin
  unfold ctrl₁
  isplitl [HO]; · iexists _; iexact HO
  isplitl [HcS]; · iexact HcS
  isplitl [HaS HaR HcR]
  · isplitl [HaS]; · iexact HaS
    isplitl [HaR]; · iexact HaR
    iexact HcR
  isplitl [Hhop]; · iexact Hhop
  iexact Hdone

theorem recvPay_sum (hk : k < 7) : recvPay pt c k = iprop(slotPts c k (commC pt c) ∗ hold c (k + 1)) := by
  unfold recvPay landed; rw [if_pos hk]
theorem recvPay_spread (hk : 7 ≤ k) : recvPay pt c k = iprop(chunkPts c (back c (k + 1)) (acc pt 7) ∗ hold c (k + 1)) := by
  unfold recvPay landed; rw [if_neg (by omega)]
theorem sendPay_spread (hk : 7 ≤ k) : sendPay pt c k = chunkPts c (back c k) (acc pt 7) := by
  unfold sendPay; rw [if_neg (by omega)]
theorem sumRest_first (hk : k < 8) : sumRest pt c k = iprop(chunkPts c (back c k) (pt c) ∗ sumRest pt c (k + 1)) :=
  bigSep_Ico_first hk _

/-- A whole summing transfer: what arrives is added to the chunk it arrives for, which the next transfer sends. -/
theorem hop_sum {α : Type} {Q : α → sProp 𝕄} (hk : k < 7) {o o₂ : Fin 2 → ℕ} {h h₂} (ho : o = ![128 * (back c k).val, 0])
    (ho₂ : o₂ = ![128 * (back c (k + 1)).val, 0]) {o' : Fin 3 → ℕ} {h'} (ho' : o' = ![k, 0, 0])
    {n : Dev nD} (hn : n = nxt c) {s s' : DmaSem sig} (hs : s = sendS k) (hs' : s' = recvS k)
    {hsc : (rSl o' h' : Memref sig (Dev.tc n : Thread nD τ).2.kind .vmem S128x1024 .f32).view.ref.isScScratch = false}
    {hsrc : (oSl o h).view.WordExact} {hdst : (rSl o' h').view.WordExact}
    {hsem : DmaTarget.Typed .vmem (.dma s') (.remote (Dev.tc n : Thread nD τ) (rSl o' h' : Memref sig (Dev.tc n : Thread nD τ).2.kind .vmem S128x1024 .f32) (.dma s) hsc)}
    {hw₁ : (rSl o' h').view.WordExact} {hw₂ : (oSl o h).view.WordExact} {hw₃ : (oSl o h).view.WordExact} {hw₄ : (rSl o' h').view.WordExact}
    {hl₁ : (oM : Memref sig .tc .vmem S1024x1024 .f32).view.LoadsAt (Rect.unit (s := S1024x1024) o₂ S128x1024.size h₂).toLoadRect}
    {hl₂ : (rM : Memref sig .tc .vmem S7x128x1024 .f32).view.LoadsAt (Rect.unit (s := S7x128x1024) o' S1x128x1024.size h').toLoadRect}
    {hl₃ : (oM : Memref sig .tc .vmem S1024x1024 .f32).view.LoadsAt (Rect.unit (s := S1024x1024) o₂ S128x1024.size h₂).toLoadRect}
    {hx : ((oM : Memref sig .tc .vmem S1024x1024 .f32).access (Rect.unit (s := S1024x1024) o₂ S128x1024.size h₂)).Stores Finset.univ}
    {hm : (Finset.univ : Finset (Rect.unit (s := S1024x1024) o₂ S128x1024.size h₂).shape.Idx) = Finset.univ ∨ ∀ a, (Rect.unit (s := S1024x1024) o₂ S128x1024.size h₂).stride a = 1}
    {pay : (S128x1024.Idx → Elt F .f32) → (S1x128x1024.Idx → Elt F .f32) → (S128x1024.Idx → Elt F .f32)}
    (hpay : ∀ v w, pay v w = addf (F := F) v (shapeCast S128x1024 w shapeCasts_S1x128x1024_S128x1024))
    {kk : PUnit → Prog (TpuEff nD τ sig (Elt F) Λ₀ .tc) α} :
    iprop(recs pt K ∗ sumSt pt c k)
      ⊢ iprop((sumSt pt c (k + 1) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma (oSl o h) (.remote (Dev.tc n : Thread nD τ) (rSl o' h') (.dma s) hsc) (.dma s') hsrc hdst hsem) fun _ =>
             .op (.waitDma2 s (rSl o' h') (oSl o h) hw₁ hw₂) fun _ =>
             .op (.waitDma2 s' (oSl o h) (rSl o' h') hw₃ hw₄) fun _ =>
             .op (.load oM (Rect.unit (s := S1024x1024) o₂ S128x1024.size h₂).toLoadRect hl₁) fun v =>
             .op (.load rM (Rect.unit (s := S7x128x1024) o' S1x128x1024.size h').toLoadRect hl₂) fun w =>
             .op (.load oM (Rect.unit (s := S1024x1024) o₂ S128x1024.size h₂).toLoadRect hl₃) fun _ =>
             .op (.store oM (Rect.unit (s := S1024x1024) o₂ S128x1024.size h₂) (pay v w) Finset.univ hx hm) kk) Q) := by
  have hk' : k < 14 := by omega
  iintro ⟨#Hr, Hst⟩ Hk
  iapply (send_sum pt K hk ho ho' hn hs hs') $$ [Hst]
  · isplitr; · iexact Hr
    iexact Hst
  iintro ⟨Hrest, Hout, Hin, Hct⟩
  iapply (wait_send pt K hk' hs (src := rSl o' h') (dst := oSl o h) (hsrc := hw₁) (hdst := hw₂) rfl) $$ [Hct]
  · isplitr; · iexact Hr
    iexact Hct
  iintro ⟨Hct, -⟩
  iapply (wait_recv pt K hk' hs' (src := oSl o h) (dst := rSl o' h') (hsrc := hw₃) (hdst := hw₄) rfl) $$ [Hct]
  · isplitr; · iexact Hr
    iexact Hct
  iintro ⟨Hct, Hpay⟩
  ihave Hpay := (Entails.of_eq (recvPay_sum pt hk)) $$ Hpay
  icases Hpay with ⟨Hslot, Hhold⟩
  ihave Hrest := (Entails.of_eq (sumRest_first pt (show k + 1 < 8 by omega))) $$ Hrest
  icases Hrest with ⟨Hch, Hrest⟩
  iapply (load_chunk ho₂ (pt c)) $$ [Hch]
  · iexact Hch
  iintro Hch
  iapply (load_slot hk ho' (commC pt c)) $$ [Hslot]
  · iexact Hslot
  iintro Hslot
  iapply (load_chunk ho₂ (pt c)) $$ [Hch]
  · iexact Hch
  iintro Hch
  iapply (store_chunk ho₂ (pt c) (acc pt (k + 1)) (fun y => by
    rw [hpay]
    refine Eq.trans ?_ (acc_succ pt c hk y)
    show FloatOps.addf _ _ = FloatOps.addf _ _
    refine congrArg (FloatOps.addf _) ?_
    have hy : y = (ix2 (y 0) (y 1) : S128x1024.Idx) := by funext a; apply Fin.ext; fin_cases a <;> rfl
    rw [hy]
    exact shapeCast_1ab_ab_apply _ _ _ _)) $$ [Hch]
  · iexact Hch
  iintro Hch
  iapply Hk
  unfold sumSt
  isplitl [Hch]; · iexact Hch
  isplitl [Hrest]; · iexact Hrest
  isplitl [Hhold]; · iexact Hhold
  isplitl [Hout]; · iexact Hout
  isplitr [Hct]
  · unfold slotsIn
    rw [bigSep_range_last k]
    isplitl [Hslot]; · iexact Hslot
    iexact Hin
  iexact Hct

/-- A whole spreading transfer: what arrives is one more chunk of the result. -/
theorem hop_spread {α : Type} {Q : α → sProp 𝕄} (hk₀ : 7 ≤ k) (hk : k < 14) {o : Fin 2 → ℕ} {h} (ho : o = ![128 * (back c k).val, 0])
    {n : Dev nD} (hn : n = nxt c) {s s' : DmaSem sig} (hs : s = sendS k) (hs' : s' = recvS k)
    {hsc : (oSl o h : Memref sig (Dev.tc n : Thread nD τ).2.kind .vmem S128x1024 .f32).view.ref.isScScratch = false}
    {hsrc : (oSl o h).view.WordExact} {hdst : (oSl o h).view.WordExact}
    {hsem : DmaTarget.Typed .vmem (.dma s') (.remote (Dev.tc n : Thread nD τ) (oSl o h : Memref sig (Dev.tc n : Thread nD τ).2.kind .vmem S128x1024 .f32) (.dma s) hsc)}
    {hw₁ hw₂ hw₃ hw₄ : (oSl o h).view.WordExact}
    {kk : PUnit → Prog (TpuEff nD τ sig (Elt F) Λ₀ .tc) α} :
    iprop(recs pt K ∗ spreadSt pt c k)
      ⊢ iprop((spreadSt pt c (k + 1) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma (oSl o h) (.remote (Dev.tc n : Thread nD τ) (oSl o h) (.dma s) hsc) (.dma s') hsrc hdst hsem) fun _ =>
             .op (.waitDma2 s (oSl o h) (oSl o h) hw₁ hw₂) fun _ =>
             .op (.waitDma2 s' (oSl o h) (oSl o h) hw₃ hw₄) kk) Q) := by
  iintro ⟨#Hr, Hst⟩ Hk
  iapply (send_spread pt K hk₀ hk ho hn hs hs') $$ [Hst]
  · isplitr; · iexact Hr
    iexact Hst
  iintro ⟨Hrest, Hin, Hct⟩
  iapply (wait_send pt K hk hs (src := oSl o h) (dst := oSl o h) (hsrc := hw₁) (hdst := hw₂) rfl) $$ [Hct]
  · isplitr; · iexact Hr
    iexact Hct
  iintro ⟨Hct, Hsrc⟩
  iapply (wait_recv pt K hk hs' (src := oSl o h) (dst := oSl o h) (hsrc := hw₃) (hdst := hw₄) rfl) $$ [Hct]
  · isplitr; · iexact Hr
    iexact Hct
  iintro ⟨Hct, Hpay⟩
  ihave Hpay := (Entails.of_eq (recvPay_spread pt hk₀)) $$ Hpay
  icases Hpay with ⟨Hch, Hhold⟩
  ihave Hsrc := (Entails.of_eq (sendPay_spread pt hk₀)) $$ Hsrc
  iapply Hk
  unfold spreadSt
  rw [bigSep_Ico_last (show 7 ≤ k + 1 by omega), bigSep_Ico_last hk₀]
  isplitl [Hch Hsrc Hrest]
  · isplitl [Hch]; · iexact Hch
    isplitl [Hsrc]; · iexact Hsrc
    iexact Hrest
  isplitl [Hhold]; · iexact Hhold
  isplitl [Hin]; · iexact Hin
  iexact Hct

end Steps

end Cert.KernelIdealProof

end
-- ==== Proof.KernelIdealHead.lean ====
/-
  What a device stores into its result buffer before any transfer: its partial result, the sum over its eight heads of
  the head's attention output times the head's rows of the output matrix.
-/
module

public import proofs.«01_k».proof.Proof.KernelIdealRing

@[expose] public section

noncomputable section

namespace Cert.KernelIdealProof

open Cert.KernelIdeal Cert.KernelIdeal.Gen

open Idealize.ShloMosaic
open Idealize.ShloMosaic.TcCoe

variable {F : FTy → Type} [FloatOps F]

/-! ## The tables -/

/-- The lane numbers. -/
def laneV : IVec S1024x128 32 := iota .tc S1024x128 32 [1] iota_S1024x128_d1_w32
/-- The angles of the rotation: the row number times a power of the base set by the lane's pair, -/
def angV : FVec F S1024x128 .f32 :=
  k0_pay6 laneV k0_pay2 k0_pay3 2#32 k0_pay4 k0_pay5 (Scalar.extui (Scalar.cmpi .sgt 2#32 0#32))
/-- their cosines and sines, -/
def cosV : FVec F S1024x128 .f32 := cos angV
def sinV : FVec F S1024x128 .f32 := sin angV
/-- and which lanes are even. -/
def evenV : IVec S1024x128 1 := k0_pay9 laneV

/-! ## One head -/

/-- The rotation of a head's rows: each pair of lanes turned by the row's angle. -/
def ropeV (t : FVec F S1024x128 .f32) : FVec F S1024x128 .f32 :=
  addf (mulf t cosV)
    (mulf (select evenV (subf (broadcast S1024x128 (Scalar.ofBits .f32 0x00000000#32)) (dynamicRotate 1 127#32 none t rotates_S1024x128_d1))
      (dynamicRotate 1 1#32 none t rotates_S1024x128_d1)) sinV)

/-- The input times a head's columns of a weight. -/
def projV (x : FVec F S1024x1024 .f32) (w : Vec F S1024x128 .f32) : FVec F S1024x128 .f32 :=
  matmul dot_S1024x1024_S1024x128_S1024x128_1_0_0_1_n_n none x (shapeCast S1024x128 w shapeCasts_S1024x128_S1024x128)
    (constant S1024x128 .f32 0x00000000#32)

/-- The scaled scores of a head. -/
def scoreV (q k : FVec F S1024x128 .f32) : FVec F S1024x1024 .f32 :=
  mulf (matmul dot_S1024x128_S1024x128_S1024x1024_1_1_0_0_n_n none q k (constant S1024x1024 .f32 0x00000000#32))
    (broadcast S1024x1024 (Scalar.ofBits .f32 0x3DB504F3#32))

/-- A row's number spread over its lanes. -/
def rowsV (v : FVec F S1024 .f32) : FVec F S1024x1024 .f32 :=
  broadcastTo S1024x1024 (shapeCast S1024x1 v shapeCasts_S1024_S1024x1) broadcasts_S1024x1_S1024x1024

/-- The exponentials of the scores less their row's greatest, -/
def expsV (s : FVec F S1024x1024 .f32) : FVec F S1024x1024 .f32 :=
  exp (subf s (rowsV (multiReduction .maximumf [1] S1024 s 0xFF800000#32 reduces_S1024x1024_S1024 (.inl rfl) rfl)))
/-- and these divided by their row's sum. -/
def softV (s : FVec F S1024x1024 .f32) : FVec F S1024x1024 .f32 :=
  divf (expsV s) (rowsV (multiReduction .add [1] S1024 (expsV s) 0x00000000#32 reduces_S1024x1024_S1024 (.inl rfl) rfl))

/-- A head's contribution to the partial result. -/
def headV (x : FVec F S1024x1024 .f32) (wq wk wv : Vec F S1024x128 .f32) (wo : Vec F S128x1024 .f32) : FVec F S1024x1024 .f32 :=
  matmul dot_S1024x128_S128x1024_S1024x1024_1_0_0_1_n_n none
    (matmul dot_S1024x1024_S1024x128_S1024x128_1_0_0_1_n_n none
      (softV (scoreV (ropeV (projV x wq)) (ropeV (projV x wk)))) (projV x wv) (constant S1024x128 .f32 0x00000000#32))
    (shapeCast S128x1024 wo shapeCasts_S128x1024_S128x1024) (constant S1024x1024 .f32 0x00000000#32)

/-! ## The partial result -/

theorem cols_inb (h : Fin 8) : ∀ a, (![0, 128 * h.val] : Fin 2 → Nat) a + S1024x128.size a ≤ S1024x1024.size a := by
  revert h; decide
theorem rows_inb (h : Fin 8) : ∀ a, (![128 * h.val, 0] : Fin 2 → Nat) a + S128x1024.size a ≤ S1024x1024.size a := by
  revert h; decide

/-- Head `h`'s columns of a weight's contents, -/
def colsV (w : OutV F) (h : Fin 8) : Vec F S1024x128 .f32 :=
  fun y => w ((Rect.unit (s := S1024x1024) ![0, 128 * h.val] S1024x128.size (cols_inb h)).toLoadRect.idx y)
/-- and its rows. -/
def rowsOfV (w : OutV F) (h : Fin 8) : Vec F S128x1024 .f32 :=
  fun y => w ((Rect.unit (s := S1024x1024) ![128 * h.val, 0] S128x1024.size (rows_inb h)).toLoadRect.idx y)

/-- Head `h`'s contribution, from the contents of the input and the weights. -/
def headOf (x : Vec F S1x1024x1024 .f32) (wq wk wv wo : OutV F) (h : Fin 8) : FVec F S1024x1024 .f32 :=
  headV (k0_pay1 x) (colsV wq h) (colsV wk h) (colsV wv h) (rowsOfV wo h)

/-- The partial result: the heads' contributions added in turn to zero. -/
def partV (x : Vec F S1x1024x1024 .f32) (wq wk wv wo : OutV F) : OutV F :=
  addf (addf (addf (addf (addf (addf (addf (addf (k0_pay10 (F := F)) (headOf x wq wk wv wo 0)) (headOf x wq wk wv wo 1)) (headOf x wq wk wv wo 2))
    (headOf x wq wk wv wo 3)) (headOf x wq wk wv wo 4)) (headOf x wq wk wv wo 5)) (headOf x wq wk wv wo 6)) (headOf x wq wk wv wo 7)

section Store

theorem pay_head0 (x : FVec F S1024x1024 .f32) (q k v : Vec F S1024x128 .f32) (o : Vec F S128x1024 .f32) :
    k0_pay12 x cosV sinV evenV (k0_pay11 q) k v o = headV x q k v o := rfl
theorem pay_head1 (x : FVec F S1024x1024 .f32) (p : FVec F S1024x1024 .f32) (q k v : Vec F S1024x128 .f32) (o : Vec F S128x1024 .f32) :
    k0_pay15 p (k0_pay14 x cosV sinV evenV q k v) o = addf p (headV x q k v o) := rfl
theorem pay_head2 (x : FVec F S1024x1024 .f32) (p : FVec F S1024x1024 .f32) (q k v : Vec F S1024x128 .f32) (o : Vec F S128x1024 .f32) :
    k0_pay19 p (k0_pay16 x v) (k0_pay17 x cosV sinV evenV q k) (k0_pay18 x cosV sinV evenV q k) o = addf p (headV x q k v o) := rfl
theorem pay_head3 (x : FVec F S1024x1024 .f32) (p : FVec F S1024x1024 .f32) (q k v : Vec F S1024x128 .f32) (o : Vec F S128x1024 .f32) :
    k0_pay23 p (k0_pay20 x v) (k0_pay21 x cosV sinV evenV q k) (k0_pay22 x cosV sinV evenV q k) o = addf p (headV x q k v o) := rfl
theorem pay_head4 (x : FVec F S1024x1024 .f32) (p : FVec F S1024x1024 .f32) (q k v : Vec F S1024x128 .f32) (o : Vec F S128x1024 .f32) :
    k0_pay27 p (k0_pay24 x v) (k0_pay25 x cosV sinV evenV q k) k0_pay26 o = addf p (headV x q k v o) := rfl
theorem pay_head5 (x : FVec F S1024x1024 .f32) (p : FVec F S1024x1024 .f32) (q k v : Vec F S1024x128 .f32) (o : Vec F S128x1024 .f32) :
    k0_pay31 x p (k0_pay28 x cosV sinV evenV q) (k0_pay29 x cosV sinV evenV k) (k0_pay30 v) (constant S1024x128 .f32 0x00000000#32) o
      = addf p (headV x q k v o) := rfl
theorem pay_head6 (x : FVec F S1024x1024 .f32) (p : FVec F S1024x1024 .f32) (q k v : Vec F S1024x128 .f32) (o : Vec F S128x1024 .f32) :
    k0_pay34 x p (k0_pay32 x cosV sinV evenV q) (k0_pay33 x cosV sinV evenV k) v o = addf p (headV x q k v o) := rfl
theorem pay_head7 (x : FVec F S1024x1024 .f32) (p : FVec F S1024x1024 .f32) (q k v : Vec F S1024x128 .f32) (o : Vec F S128x1024 .f32) :
    k0_pay38 x cosV sinV evenV p (k0_pay35 x cosV sinV evenV q) (k0_pay36 x k) (k0_pay37 x k) 1#32 v o = addf p (headV x q k v o) := rfl

variable (x : FVec F S1024x1024 .f32) (q k v : Fin 8 → Vec F S1024x128 .f32) (o : Fin 8 → Vec F S128x1024 .f32)

/-- The value stored, as the body's steps nest it, is the heads' contributions added in turn. -/
theorem stored_eq :
    k0_pay38 x cosV sinV evenV
      (k0_pay34 x
        (k0_pay31 x
          (k0_pay27
            (k0_pay23
              (k0_pay19
                (k0_pay15 (k0_pay13 k0_pay10 (k0_pay12 x cosV sinV evenV (k0_pay11 (q 0)) (k 0) (v 0) (o 0)))
                  (k0_pay14 x cosV sinV evenV (q 1) (k 1) (v 1)) (o 1))
                (k0_pay16 x (v 2)) (k0_pay17 x cosV sinV evenV (q 2) (k 2)) (k0_pay18 x cosV sinV evenV (q 2) (k 2)) (o 2))
              (k0_pay20 x (v 3)) (k0_pay21 x cosV sinV evenV (q 3) (k 3)) (k0_pay22 x cosV sinV evenV (q 3) (k 3)) (o 3))
            (k0_pay24 x (v 4)) (k0_pay25 x cosV sinV evenV (q 4) (k 4)) k0_pay26 (o 4))
          (k0_pay28 x cosV sinV evenV (q 5)) (k0_pay29 x cosV sinV evenV (k 5)) (k0_pay30 (v 5)) (constant S1024x128 .f32 0x00000000#32) (o 5))
        (k0_pay32 x cosV sinV evenV (q 6)) (k0_pay33 x cosV sinV evenV (k 6)) (v 6) (o 6))
      (k0_pay35 x cosV sinV evenV (q 7)) (k0_pay36 x (k 7)) (k0_pay37 x (k 7)) 1#32 (v 7) (o 7)
    = addf (addf (addf (addf (addf (addf (addf (addf (k0_pay10 (F := F)) (headV x (q 0) (k 0) (v 0) (o 0))) (headV x (q 1) (k 1) (v 1) (o 1)))
        (headV x (q 2) (k 2) (v 2) (o 2))) (headV x (q 3) (k 3) (v 3) (o 3))) (headV x (q 4) (k 4) (v 4) (o 4))) (headV x (q 5) (k 5) (v 5) (o 5)))
        (headV x (q 6) (k 6) (v 6) (o 6))) (headV x (q 7) (k 7) (v 7) (o 7)) := by
  rw [pay_head7, pay_head6, pay_head5, pay_head4, pay_head3, pay_head2, pay_head1, pay_head0]
  rfl

end Store

end Cert.KernelIdealProof

end
-- ==== Proof.KernelIdealEnds.lean ====
/-
  The two ends of a device's body: the loads of a head's weights and the whole store before the transfers, the result
  buffer cut into chunks for them, and both buffers joined whole again after them.
-/
module

public import proofs.«01_k».proof.Proof.KernelIdealStep
public import proofs.«01_k».proof.Proof.KernelIdealHead

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Offsets and devices -/

/-- The offset of the chunk a summing transfer sends, -/
theorem off1_at (c : Dev nD) {r : ℕ} (hr : r < 7) : k0_off1 c (BitVec.ofNat 32 r) = ![128 * (back c r).val, 0] := by
  refine (k0_off1_eq c ⟨r, hr⟩).trans ?_
  rw [back_val, show (c.val + 8 - r) % 8 = (c.val + 7 * r) % 8 from by omega]
/-- of the chunk one adds to, -/
theorem off2_at (c : Dev nD) {r : ℕ} (hr : r < 7) : k0_off2 c (BitVec.ofNat 32 r) = ![128 * (back c (r + 1)).val, 0] := by
  refine (k0_off2_eq c ⟨r, hr⟩).trans ?_
  rw [back_val, show (c.val + 7 - r) % 8 = (c.val + 7 * (r + 1)) % 8 from by omega]
/-- and of the chunk a spreading transfer sends. -/
theorem off3_at (c : Dev nD) {r : ℕ} (hr : r < 7) : k0_off3 c (BitVec.ofNat 32 r) = ![128 * (back c (7 + r)).val, 0] := by
  refine (k0_off3_eq c ⟨r, hr⟩).trans ?_
  rw [back_val, show (c.val + 9 - r) % 8 = (c.val + 7 * (7 + r)) % 8 from by omega]

/-- A device named by the number after `c`'s is the next one, -/
theorem dev_nxt (c : Dev nD) {n : ℕ} (hn : n < nD) (h : n = (c.val + 1) % 8) : (⟨n, hn⟩ : Dev nD) = nxt c :=
  dev_ext (h.trans (by rw [back_val]; omega))
/-- and by the number before it the one before. -/
theorem dev_prv (c : Dev nD) {n : ℕ} (hn : n < nD) (h : n = (c.val + 7) % 8) : (⟨n, hn⟩ : Dev nD) = prv c :=
  dev_ext (h.trans (by rw [back_val]))

/-! ## The loads of a head -/

abbrev wqM : Memref sig .tc .vmem S1024x1024 .f32 := Memref.whole cc0_stg1_0
abbrev wkM : Memref sig .tc .vmem S1024x1024 .f32 := Memref.whole cc0_stg2_0
abbrev wvM : Memref sig .tc .vmem S1024x1024 .f32 := Memref.whole cc0_stg3_0
abbrev woM : Memref sig .tc .vmem S1024x1024 .f32 := Memref.whole cc0_stg4_0

section Loads

variable (c : Dev nD) (wq wk wv wo : OutV F)

/-- The four weights held, at their contents. -/
def wts : sProp 𝕄 :=
  iprop((((c : Thread nD τ).loc cc0_stg1_0) ↦{fullShare} wq) ∗ (((c : Thread nD τ).loc cc0_stg2_0) ↦{fullShare} wk)
    ∗ (((c : Thread nD τ).loc cc0_stg3_0) ↦{fullShare} wv) ∗ (((c : Thread nD τ).loc cc0_stg4_0) ↦{fullShare} wo))

/-- Head `h`'s four loads. -/
theorem load_head {α : Type} {Q : α → sProp 𝕄} (h : Fin 8) {o o' : Fin 2 → ℕ} (ho : o = ![0, 128 * h.val]) (ho' : o' = ![128 * h.val, 0])
    {b₁ b₂ b₃ : ∀ a, o a + S1024x128.size a ≤ S1024x1024.size a} {b₄ : ∀ a, o' a + S128x1024.size a ≤ S1024x1024.size a}
    {hl₁ : (wqM : Memref sig .tc .vmem S1024x1024 .f32).view.LoadsAt (Rect.unit (s := S1024x1024) o S1024x128.size b₁).toLoadRect}
    {hl₂ : (wkM : Memref sig .tc .vmem S1024x1024 .f32).view.LoadsAt (Rect.unit (s := S1024x1024) o S1024x128.size b₂).toLoadRect}
    {hl₃ : (wvM : Memref sig .tc .vmem S1024x1024 .f32).view.LoadsAt (Rect.unit (s := S1024x1024) o S1024x128.size b₃).toLoadRect}
    {hl₄ : (woM : Memref sig .tc .vmem S1024x1024 .f32).view.LoadsAt (Rect.unit (s := S1024x1024) o' S128x1024.size b₄).toLoadRect}
    {kk : (S1024x128.Idx → Elt F .f32) → (S1024x128.Idx → Elt F .f32) → (S1024x128.Idx → Elt F .f32) → (S128x1024.Idx → Elt F .f32)
      → Prog (TpuEff nD τ sig (Elt F) Λ₀ .tc) α} :
    wts c wq wk wv wo
      ⊢ iprop((wts c wq wk wv wo -∗ wp frame (wpE (defs₀ (F := F)) 𝒱₀ (c : Thread nD τ) none) Set.univ (kk (colsV wq h) (colsV wk h) (colsV wv h) (rowsOfV wo h)) Q)
        -∗ wp frame (wpE (defs₀ (F := F)) 𝒱₀ (c : Thread nD τ) none) Set.univ
            (.op (.load wqM (Rect.unit (s := S1024x1024) o S1024x128.size b₁).toLoadRect hl₁) fun q =>
             .op (.load wkM (Rect.unit (s := S1024x1024) o S1024x128.size b₂).toLoadRect hl₂) fun k =>
             .op (.load wvM (Rect.unit (s := S1024x1024) o S1024x128.size b₃).toLoadRect hl₃) fun v =>
             .op (.load woM (Rect.unit (s := S1024x1024) o' S128x1024.size b₄).toLoadRect hl₄) fun w => kk q k v w) Q) := by
  subst ho ho'
  unfold wts
  iintro ⟨Hq, Hk, Hv, Ho⟩ Hc
  iapply (wp_load (Γ := []) 𝒱₀ (c : Thread nD τ) none Set.univ (m := wqM) (Finset.subset_univ _)) $$ Hq; iintro Hq
  iapply (wp_load (Γ := []) 𝒱₀ (c : Thread nD τ) none Set.univ (m := wkM) (Finset.subset_univ _)) $$ Hk; iintro Hk
  iapply (wp_load (Γ := []) 𝒱₀ (c : Thread nD τ) none Set.univ (m := wvM) (Finset.subset_univ _)) $$ Hv; iintro Hv
  iapply (wp_load (Γ := []) 𝒱₀ (c : Thread nD τ) none Set.univ (m := woM) (Finset.subset_univ _)) $$ Ho; iintro Ho
  iapply Hc
  isplitl [Hq]; · iexact Hq
  isplitl [Hk]; · iexact Hk
  isplitl [Hv]; · iexact Hv
  iexact Ho

end Loads

/-! ## The result buffer in chunks, the landing buffer in slots -/

section Join

variable (c : Dev nD)

/-- The result buffer held whole is its eight chunks, from any place on the ring. -/
theorem out_chunks (a : ℕ) (f : OutV F) :
    ((((c : Thread nD τ).loc cc0_stg5_0) ↦{fullShare} f : sProp 𝕄)) = bigSep (Finset.Ico a (a + 8)) fun j => chunkPts c (back c j) f := by
  unfold chunkPts
  refine Eq.trans ?_ (pointsTo_biUnion (ℓ := (c : Thread nD τ).loc cc0_stg5_0) (Finset.Ico a (a + 8)) (fun j => chunkSet (back c j).val) (fun i hi j hj hij => ?_))
  · refine congrArg (fun S => (((c : Thread nD τ).loc cc0_stg5_0) ↦[S]{fullShare} f : sProp 𝕄)) ?_
    refine Eq.symm (Finset.eq_univ_iff_forall.mpr fun x => ?_)
    have hx : (x 0).val < 1024 := (x 0).isLt
    have hc := dev_lt c
    refine Finset.mem_biUnion.mpr ⟨a + (c.val + 7 * a + 8 * a - a * 0 + 8 - (x 0).val / 128) % 8, Finset.mem_Ico.mpr ⟨by omega, by omega⟩, ?_⟩
    rw [mem_chunkSet, back_val]
    omega
  · refine Finset.disjoint_left.mpr fun x h₁ h₂ => ?_
    rw [mem_chunkSet, back_val] at h₁ h₂
    rw [Finset.mem_Ico] at hi hj
    omega

/-- The landing buffer held whole is its seven slots. -/
theorem com_slots (f : ComV F) :
    ((((c : Thread nD τ).loc cc0_scratch0) ↦{fullShare} f : sProp 𝕄)) = bigSep (Finset.range 7) fun h => slotPts c h f := by
  unfold slotPts
  refine Eq.trans ?_ (pointsTo_biUnion (ℓ := (c : Thread nD τ).loc cc0_scratch0) (Finset.range 7) slotSet (fun i hi j hj hij => ?_))
  · refine congrArg (fun S => (((c : Thread nD τ).loc cc0_scratch0) ↦[S]{fullShare} f : sProp 𝕄)) ?_
    refine Eq.symm (Finset.eq_univ_iff_forall.mpr fun x => ?_)
    have hx : (x 0).val < 7 := (x 0).isLt
    exact Finset.mem_biUnion.mpr ⟨(x 0).val, Finset.mem_range.mpr hx, mem_slotSet.mpr rfl⟩
  · refine Finset.disjoint_left.mpr fun x h₁ h₂ => ?_
    exact hij ((mem_slotSet.mp h₁).symm.trans (mem_slotSet.mp h₂))

variable (pt : Dev nD → OutV F)

/-- With the partial result stored and the next device's landing buffer in hand, the transfers can begin. -/
theorem begin_sum : iprop((((c : Thread nD τ).loc cc0_stg5_0) ↦{fullShare} pt c) ∗ barPay c ∗ ctrl c 0) ⊢ (sumSt pt c 0 : sProp 𝕄) := by
  have e0 : (chunkPts c (back c 0) (pt c) : sProp 𝕄) = chunkPts c (back c 0) (acc pt 0) := chunkPts_congr fun y => by
    have e : rowDev (chunkIdx (back c 0) (y 0) (y 1) 0).val 0 = c := (rowDev_chunkIdx (back c 0) (y 0) (y 1) 0).trans
      (dev_ext (by have := dev_lt c; show ((c.val + 7 * 0) % 8 + 0) % 8 = c.val; omega))
    exact congrArg (fun d => pt d (chunkIdx (back c 0) (y 0) (y 1))) e.symm
  have e1 : barPay (F := F) c = slotsOut c 0 := by unfold barPay slotsOut; rw [Finset.range_eq_Ico]
  rw [out_chunks c 0 (pt c), bigSep_Ico_first (by omega), e0, e1]
  unfold sumSt hold slotsIn sumRest
  rw [show Finset.Ico (max 1 (0 - 6)) (min (0 + 1) 8) = ∅ from rfl, bigSep_empty, Finset.range_zero, bigSep_empty]
  iintro ⟨⟨H0, Hr⟩, Hs, Hc⟩
  isplitl [H0]; · iexact H0
  isplitl [Hr]; · iexact Hr
  isplitr; · iempintro
  isplitl [Hs]; · iexact Hs
  isplitr; · iempintro
  iexact Hc

/-- After the last transfer the result buffer is whole again, and so is the landing buffer. -/
theorem end_spread : spreadSt pt c 14 ⊢ (iprop((((c : Thread nD τ).loc cc0_stg5_0) ↦{fullShare} acc pt 7)
    ∗ (((c : Thread nD τ).loc cc0_scratch0) ↦{fullShare} commC pt c) ∗ (∃ W, owes (c : Thread nD τ) 0 W)
    ∗ bigSep (Finset.range 14) (doneG c)) : sProp 𝕄) := by
  rw [out_chunks c 7, com_slots]
  unfold spreadSt slotsIn ctrl
  rw [owedFrom_end]
  iintro ⟨H, -, Hs, HO, -, Hd⟩
  isplitl [H]; · iexact H
  isplitl [Hs]; · iexact Hs
  isplitl [HO]; · iexact HO
  iexact Hd

end Join

end Cert.KernelIdealProof

end
-- ==== Proof.KernelIdealBody.lean ====
/-
  The body of the kernel on one device, run from what the launch hands it to what it leaves.
-/
module

public import proofs.«01_k».proof.Proof.KernelIdealEnds
public import proofs.«01_k».proof.Proof.Gen.KernelIdeal.Points

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore counter zero. -/
def s₀ : MemSt nD τ sig (Elt F) := ⟨m, fun _ => 0, ρ⟩

/-! ## Contents -/

/-- The input and the weights as a device's body finds them, -/
def xin (c : Dev nD) : (cc0_stg0_0 : Ref sig .tc).ty.Contents (Elt F) :=
  (win0_0.blk (0 : Fin 1)).view.read (Elt F) ((s₀ m ρ).mem ((c : Thread nD τ).loc main_arg0))
def wqin (c : Dev nD) : (cc0_stg1_0 : Ref sig .tc).ty.Contents (Elt F) :=
  (win0_1.blk (0 : Fin 1)).view.read (Elt F) ((s₀ m ρ).mem ((c : Thread nD τ).loc main_arg1))
def wkin (c : Dev nD) : (cc0_stg2_0 : Ref sig .tc).ty.Contents (Elt F) :=
  (win0_2.blk (0 : Fin 1)).view.read (Elt F) ((s₀ m ρ).mem ((c : Thread nD τ).loc main_arg2))
def wvin (c : Dev nD) : (cc0_stg3_0 : Ref sig .tc).ty.Contents (Elt F) :=
  (win0_3.blk (0 : Fin 1)).view.read (Elt F) ((s₀ m ρ).mem ((c : Thread nD τ).loc main_arg3))
def woin (c : Dev nD) : (cc0_stg4_0 : Ref sig .tc).ty.Contents (Elt F) :=
  (win0_4.blk (0 : Fin 1)).view.read (Elt F) ((s₀ m ρ).mem ((c : Thread nD τ).loc main_arg4))

/-- its partial result, -/
def partC (c : Dev nD) : OutV F := partV (xin m ρ c) (wqin m ρ c) (wkin m ρ c) (wvin m ρ c) (woin m ρ c)
/-- and what every device ends with: the partial results summed, chunk by chunk. -/
def outC : OutV F := acc (partC m ρ) 7

/-! ## What the body starts from and leaves -/

/-- The tokens and positions of one transfer. -/
def hopTok (c : Dev nD) (j : ℕ) : sProp 𝕄 :=
  iprop(dutyTok ER (sendCell c j) 0 false ∗ dutyTok ER (recvCell (nxt c) j) 0 false
    ∗ atPos ER (sendCell c j) 0 ∅ 0 ∗ atPos ER (recvCell c j) 0 ∅ 0)
/-- Those of the barrier and of all transfers: what only device `c` holds. -/
def linear (c : Dev nD) : sProp 𝕄 :=
  iprop(atPos ER (barCell c) 0 ∅ 0 ∗ dutyTok ER (barCell (prv c)) 0 true ∗ dutyTok ER (barCell (nxt c)) 0 false
    ∗ bigSep (Finset.Ico 0 14) (hopTok c))
def ghost (K : Dev nD × Fin 29 → ℕ) (c : Dev nD) : sProp 𝕄 := iprop(records (partC m ρ) K ∗ linear c)
/-- Its credits: two units at its barrier, a chunk's landing for each transfer. -/
def credits (c : Dev nD) : sProp 𝕄 :=
  iprop(cred (tallyAt (barCell c) () 2) ∗ bigSep (Finset.Ico 0 14) fun j => cred (tallyAt (recvCell c j) () N))

def start (c : Dev nD) : sProp 𝕄 := iprop((∃ K, ghost m ρ K c) ∗ credits c ∗ levAts L lv)

def Φ₀ (c : Dev nD) : sProp 𝕄 := iprop(start m ρ c ∗ ∃ f : ComV F, ((c : Thread nD τ).loc cc0_scratch0) ↦{fullShare} f)
def Φ₁ (c : Dev nD) : sProp 𝕄 :=
  iprop((((c : Thread nD τ).loc cc0_scratch0) ↦{fullShare} commC (partC m ρ) c) ∗ semVal (barCell c) 0 ∗ bigSep (Finset.range 14) (doneG c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => wqin m ρ c
    | ⟨2, _⟩ => wkin m ρ c
    | ⟨3, _⟩ => wvin m ρ c
    | ⟨4, _⟩ => woin m ρ c
    | ⟨5, _⟩ => outC m ρ
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

section Body

variable (K : Dev nD × Fin 29 → ℕ) (c : Dev nD)

theorem kcell_bar : kcell (c, (0 : Fin 29)) = barCell c := rfl
theorem inv_bar (pt : Dev nD → OutV F) : recs pt K ⊢ cellInv ER (ringRd pt) (K (c, 0)) (barCell c) := inv_at pt K (c, 0)
theorem reached_bar (pt : Dev nD → OutV F) : recs pt K ⊢ reached ER (barCell c) 0 := reached_at pt K (c, 0)

/-- Tokens and credits together are what the transfers need. -/
theorem hops_ready : iprop(bigSep (Finset.Ico 0 14) (hopTok c) ∗ bigSep (Finset.Ico 0 14) fun j => cred (tallyAt (recvCell c j) () N))
    ⊢ (bigSep (Finset.Ico 0 14) (hopG c) : sProp 𝕄) := by
  rw [← bigSep_sep']
  refine bigSep_mono fun j _ => ?_
  show iprop(hopTok c j ∗ cred (tallyAt (recvCell c j) () N)) ⊢ hopG c j
  unfold hopTok hopG
  iintro ⟨⟨H1, H2, H3, H4⟩, H5⟩
  isplitl [H1]; · iexact H1
  isplitl [H2]; · iexact H2
  isplitl [H3]; · iexact H3
  isplitl [H4]; · iexact H4
  iexact H5

/-- The whole input as the body reads it, -/
theorem read_x (f : (cc0_stg0_0 : Ref sig .tc).ty.Contents (Elt F)) :
    (xM : Memref sig .tc .vmem S1x1024x1024 .f32).view.readAt (Elt F) (Rect.unit (s := S1x1024x1024) ![0, 0, 0] S1x1024x1024.size inb_S1x1024x1024_S1x1024x1024_0_0_0).toLoadRect f = f :=
  Memref.readAt_unit_zero (Elt F) cc0_stg0_0 (funext fun a => by fin_cases a <;> rfl) _ f
/-- and the whole result buffer as it writes it. -/
theorem write_out (f w : (cc0_stg5_0 : Ref sig .tc).ty.Contents (Elt F)) :
    ((oM : Memref sig .tc .vmem S1024x1024 .f32).access (Rect.unit (s := S1024x1024) ![0, 0] S1024x1024.size inb_S1024x1024_S1024x1024_0_0) : View sig .tc _ _ _).write (Elt F) f w Finset.univ = w :=
  Memref.write_access_unit_zero_univ (Elt F) cc0_stg5_0 (funext fun a => by fin_cases a <;> rfl) _ f w

/-- The cosines, the sines and the even lanes as the body computes them. -/
theorem cosV_eq : cosV (F := F) = k0_pay7 (iota .tc S1024x128 32 [1] iota_S1024x128_d1_w32) k0_pay2 k0_pay3 2#32 k0_pay4 k0_pay5
    (Scalar.extui (Scalar.cmpi .sgt 2#32 0#32)) := rfl
theorem sinV_eq : sinV (F := F) = k0_pay8 (iota .tc S1024x128 32 [1] iota_S1024x128_d1_w32) k0_pay2 k0_pay3 2#32 k0_pay4 k0_pay5
    (Scalar.extui (Scalar.cmpi .sgt 2#32 0#32)) := rfl
theorem evenV_eq : evenV = k0_pay9 (iota .tc S1024x128 32 [1] iota_S1024x128_d1_w32) := rfl

/-- What a summing transfer stores: the chunk plus what arrived. -/
theorem pay_sum (v : S128x1024.Idx → Elt F .f32) (w : S1x128x1024.Idx → Elt F .f32) :
    k0_pay39 v w = addf (F := F) v (shapeCast S128x1024 w shapeCasts_S1x128x1024_S128x1024) := by
  unfold k0_pay39
  exact congrArg (fun u => addf (F := F) u (shapeCast S128x1024 w shapeCasts_S1x128x1024_S128x1024)) (shapeCast_self v _)

/-- The own landing buffer, slot by slot, is what the signal to the device before hands over; -/
theorem slots_given (f0 : ComV F) : (((c : Thread nD τ).loc cc0_scratch0) ↦{fullShare} f0 : sProp 𝕄) ⊢ (ringRd (partC m ρ)).payload (barCell (prv c)) 0 true := by
  show _ ⊢ (barPay (prv c) : sProp 𝕄)
  unfold barPay
  rw [nxt_prv, com_slots]
  refine bigSep_mono fun h _ => ?_
  show (slotPts c h f0 : sProp 𝕄) ⊢ iprop(∃ f, slotPts c h f)
  iintro H; iexists f0; iexact H
/-- the signal to the device after hands over nothing. -/
theorem nothing_given : (iprop(emp) : sProp 𝕄) ⊢ (ringRd (partC m ρ)).payload (barCell (nxt c)) 0 false := BI.Entails.refl _

def bodyPre : sProp 𝕄 :=
  iprop((ghost m ρ K c ∗ credits c ∗ levAts L lv ∗ ∃ f : ComV F, ((c : Thread nD τ).loc cc0_scratch0) ↦{fullShare} f)
    ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost : sProp 𝕄 :=
  iprop(Φ₁ m ρ c ∗ (dats m ρ 0 c).owesAt () t0_0.succ ∗ stg c cc0_stg0_0 (xin m ρ c) ∗ stg c cc0_stg1_0 (wqin m ρ c)
    ∗ stg c cc0_stg2_0 (wkin m ρ c) ∗ stg c cc0_stg3_0 (wvin m ρ c) ∗ stg c cc0_stg4_0 (woin m ρ c) ∗ stg c cc0_stg5_0 (outC m ρ))

set_option maxHeartbeats 4000000 in
set_option maxRecDepth 16000 in
/-- The body run from its start to its end. -/
theorem sound_body (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2 cc0_scratch3) Kt := by
  simp only [cc0_body_eq_skeleton, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton, k0_part22_eq_skeleton,
    k0_part23_eq_skeleton, k0_part24_eq_skeleton, k0_part25_eq_skeleton, k0_part26_eq_skeleton,
    cc0_body_skel, k0_part1_skel, k0_part2_skel, k0_part3_skel, k0_part4_skel, k0_part5_skel, k0_part6_skel, k0_part7_skel, k0_part8_skel,
    k0_part9_skel, k0_part10_skel, k0_part11_skel, k0_part12_skel, k0_part13_skel, k0_part14_skel, k0_part15_skel, k0_part16_skel,
    k0_part17_skel, k0_part18_skel, k0_part19_skel, k0_part20_skel, k0_part21_skel, k0_part22_skel, k0_part23_skel, k0_part24_skel,
    k0_part25_skel, k0_part26_skel,
    semSignalWord, semWaitWord, Prog.lift, Prog.bind_op, Prog.bind_ret, Prog.pure_eq_ret, Prog.bind_assoc, wp_deviceId]
  unfold bodyPre ghost linear credits
  iintro ⟨⟨⟨⟨#Hrec, HatB, HtP, HtN, Htok⟩, ⟨HcB, Hcr⟩, #Hlev, ⟨%f0, Hscr⟩⟩, Ho,
    ⟨%d0, %g0, %hg0, Hx⟩, ⟨%d1, %g1, %hg1, Hq⟩, ⟨%d2, %g2, %hg2, Hw⟩, ⟨%d3, %g3, %hg3, Hv⟩, ⟨%d4, %g4, %hg4, Hwo⟩, ⟨%d5, %g5, %hg5, Hout⟩⟩, Hk⟩
  have h0 : g0 = xin m ρ c := by rw [hg0]; unfold Dat.before; rw [if_pos (fetch0_0 t0_0)]; rfl
  have h1 : g1 = wqin m ρ c := by rw [hg1]; unfold Dat.before; rw [if_pos (fetch0_1 t0_0)]; rfl
  have h2 : g2 = wkin m ρ c := by rw [hg2]; unfold Dat.before; rw [if_pos (fetch0_2 t0_0)]; rfl
  have h3 : g3 = wvin m ρ c := by rw [hg3]; unfold Dat.before; rw [if_pos (fetch0_3 t0_0)]; rfl
  have h4 : g4 = woin m ρ c := by rw [hg4]; unfold Dat.before; rw [if_pos (fetch0_4 t0_0)]; rfl
  subst h0 h1 h2 h3 h4
  ihave #Hr : (recs (partC m ρ) K : sProp 𝕄) $$ []
  · unfold recs; isplitl; · iexact Hrec
    iexact Hlev
  unfold Dat.owesAt Pipeline.owesWithin
  icases Ho with ⟨%W, %hW, HO⟩
  rw [show (dats m ρ 0 c).owed t0_0.castSucc = O₀ c from rfl]
  simp only [dev_prv c (k0_dev1_lt c) (k0_dev1_eq c), dev_nxt c (k0_dev2_lt c) (k0_dev2_eq c)]
  -- the signal to the device before, with the own landing buffer
  iapply (Rounds.wp_signal 𝒱₀ ER (ringRd (partC m ρ)) (c : Thread nD τ) none (dst := (prv c : Thread nD τ)) (κ := K (prv c, 0))
      (d := true) (by rw [duties_bar]; exact Finset.mem_univ _) (show _ = _ from rfl) () (O₁ c) rfl) $$ [HO HtP Hscr]
  · isplitr; · iapply (inv_bar K (prv c) (partC m ρ)); iexact Hr
    isplitl [HO]; · iexact HO
    isplitl [HtP]; · iexact HtP
    isplitl [Hscr]
    · iapply (slots_given m ρ c f0); iexact Hscr
    iapply (reached_bar K (prv c) (partC m ρ)); iexact Hr
  iintro HO
  unfold O₁
  -- the signal to the device after
  iapply (Rounds.wp_signal 𝒱₀ ER (ringRd (partC m ρ)) (c : Thread nD τ) none (dst := (nxt c : Thread nD τ)) (κ := K (nxt c, 0))
      (d := false) (by rw [duties_bar]; exact Finset.mem_univ _) (show _ = _ from rfl) () (owedFrom c 0) rfl) $$ [HO HtN]
  · isplitr; · iapply (inv_bar K (nxt c) (partC m ρ)); iexact Hr
    isplitl [HO]; · iexact HO
    isplitl [HtN]; · iexact HtN
    isplitr
    · iapply (nothing_given m ρ c); iempintro
    iapply (reached_bar K (nxt c) (partC m ρ)); iexact Hr
  iintro HO
  -- the wait for both neighbours' signals
  iapply (Rounds.wp_wait_rest_token 𝒱₀ ER (ringRd (partC m ρ)) (c : Thread nD τ) none (κ := K (c, 0))
      (wpE_semWait_eq 𝒱₀ (c : Thread nD τ) none Set.univ) (Set.mem_univ _) () (O := owedFrom c 0) (W := W) (R := 0) (m := 0) (T := ∅)
      (by rw [expect_bar]; decide)) $$ [HcB HO HatB]
  · isplitr; · iapply (inv_bar K c (partC m ρ)); iexact Hr
    isplitl [HcB]; · iexact HcB
    isplitl [HO]; · iexact HO
    isplitr
    · iapply (mayWait_owed c (.reg barS) (n := 1) (k := 0) (Nat.le_refl 1) (by omega)); iexact Hlev
    iexact HatB
  iintro ⟨HO, HatB, -, Hpay⟩
  ihave Hp := (Entails.of_eq (rest_bar (partC m ρ) c)) $$ Hpay
  icases Hp with ⟨-, Hslots⟩
  imod (Rounds.cell_close ER (ringRd (partC m ρ)) (Set.mem_univ (K (c, 0))) (fun h => h) (R := 0 + 1) (duties_later (partC m ρ) (barCell c))) $$ [HatB] with HzB
  · isplitr; · iapply (inv_bar K c (partC m ρ)); iexact Hr
    iexact HatB
  -- the input and the heads' weights
  iapply (wp_load (Γ := []) 𝒱₀ (c : Thread nD τ) none Set.univ (m := xM) (Finset.subset_univ _)) $$ Hx; iintro Hx
  rw [read_x]
  ihave Hwts : (wts c (wqin m ρ c) (wkin m ρ c) (wvin m ρ c) (woin m ρ c) : sProp 𝕄) $$ [Hq Hw Hv Hwo]
  · unfold wts
    isplitl [Hq]; · iexact Hq
    isplitl [Hw]; · iexact Hw
    isplitl [Hv]; · iexact Hv
    iexact Hwo
  iapply (load_head c _ _ _ _ 0 rfl rfl) $$ Hwts; iintro Hwts
  iapply (load_head c _ _ _ _ 1 rfl rfl) $$ Hwts; iintro Hwts
  iapply (load_head c _ _ _ _ 2 rfl rfl) $$ Hwts; iintro Hwts
  iapply (load_head c _ _ _ _ 3 rfl rfl) $$ Hwts; iintro Hwts
  iapply (load_head c _ _ _ _ 4 rfl rfl) $$ Hwts; iintro Hwts
  iapply (load_head c _ _ _ _ 5 rfl rfl) $$ Hwts; iintro Hwts
  iapply (load_head c _ _ _ _ 6 rfl rfl) $$ Hwts; iintro Hwts
  iapply (load_head c _ _ _ _ 7 rfl rfl) $$ Hwts; iintro Hwts
  -- the partial result
  iapply (wp_load (Γ := []) 𝒱₀ (c : Thread nD τ) none Set.univ (m := oM) (Finset.subset_univ _)) $$ Hout; iintro Hout
  iapply (wp_store (Γ := []) 𝒱₀ (c : Thread nD τ) none Set.univ (m := oM)
    (r := Rect.unit (s := S1024x1024) ![0, 0] S1024x1024.size inb_S1024x1024_S1024x1024_0_0) (Mk := Finset.univ) (Finset.subset_univ _)) $$ Hout; iintro Hout
  have e := stored_eq (k0_pay1 (xin m ρ c)) (colsV (wqin m ρ c)) (colsV (wkin m ρ c)) (colsV (wvin m ρ c)) (rowsOfV (woin m ρ c))
  rw [cosV_eq, sinV_eq, evenV_eq] at e
  rw [write_out]
  ihave Hout := (Entails.of_eq (congrArg (fun f : OutV F => (((c : Thread nD τ).loc cc0_stg5_0) ↦{fullShare} f : sProp 𝕄)) e)) $$ Hout
  ihave Hst := (begin_sum c (partC m ρ)) $$ [Hout Hslots HO Hcr Htok]
  · isplitl [Hout]; · iexact Hout
    isplitl [Hslots]; · iexact Hslots
    unfold ctrl
    isplitl [HO]; · iexists _; iexact HO
    isplitl [Hcr Htok]
    · iapply (hops_ready c)
      isplitl [Htok]; · iexact Htok
      iexact Hcr
    rw [Finset.range_zero, bigSep_empty]; iempintro
  -- the transfers
  iapply (hop_sum (partC m ρ) K (c := c) (k := 0) (by omega) (off1_at c (r := 0) (by omega)) (off2_at c (r := 0) (by omega)) rfl (dev_nxt c (k0_dev3_lt c) (k0_dev3_eq c)) rfl rfl pay_sum) $$ [Hst]
  · isplitr; · iexact Hr
    iexact Hst
  iintro Hst
  iapply (hop_sum (partC m ρ) K (c := c) (k := 1) (by omega) (off1_at c (r := 1) (by omega)) (off2_at c (r := 1) (by omega)) rfl (dev_nxt c (k0_dev4_lt c) (k0_dev4_eq c)) rfl rfl pay_sum) $$ [Hst]
  · isplitr; · iexact Hr
    iexact Hst
  iintro Hst
  iapply (hop_sum (partC m ρ) K (c := c) (k := 2) (by omega) (off1_at c (r := 2) (by omega)) (off2_at c (r := 2) (by omega)) rfl (dev_nxt c (k0_dev5_lt c) (k0_dev5_eq c)) rfl rfl pay_sum) $$ [Hst]
  · isplitr; · iexact Hr
    iexact Hst
  iintro Hst
  iapply (hop_sum (partC m ρ) K (c := c) (k := 3) (by omega) (off1_at c (r := 3) (by omega)) (off2_at c (r := 3) (by omega)) rfl (dev_nxt c (k0_dev6_lt c) (k0_dev6_eq c)) rfl rfl pay_sum) $$ [Hst]
  · isplitr; · iexact Hr
    iexact Hst
  iintro Hst
  iapply (hop_sum (partC m ρ) K (c := c) (k := 4) (by omega) (off1_at c (r := 4) (by omega)) (off2_at c (r := 4) (by omega)) rfl (dev_nxt c (k0_dev7_lt c) (k0_dev7_eq c)) rfl rfl pay_sum) $$ [Hst]
  · isplitr; · iexact Hr
    iexact Hst
  iintro Hst
  iapply (hop_sum (partC m ρ) K (c := c) (k := 5) (by omega) (off1_at c (r := 5) (by omega)) (off2_at c (r := 5) (by omega)) rfl (dev_nxt c (k0_dev8_lt c) (k0_dev8_eq c)) rfl rfl pay_sum) $$ [Hst]
  · isplitr; · iexact Hr
    iexact Hst
  iintro Hst
  iapply (hop_sum (partC m ρ) K (c := c) (k := 6) (by omega) (off1_at c (r := 6) (by omega)) (off2_at c (r := 6) (by omega)) rfl (dev_nxt c (k0_dev9_lt c) (k0_dev9_eq c)) rfl rfl pay_sum) $$ [Hst]
  · isplitr; · iexact Hr
    iexact Hst
  iintro Hst
  ihave Hst := (sum_to_spread (partC m ρ) c) $$ Hst
  iapply (hop_spread (partC m ρ) K (c := c) (k := 7) (by omega) (by omega) (off3_at c (r := 0) (by omega)) (dev_nxt c (k0_dev10_lt c) (k0_dev10_eq c)) rfl rfl) $$ [Hst]
  · isplitr; · iexact Hr
    iexact Hst
  iintro Hst
  iapply (hop_spread (partC m ρ) K (c := c) (k := 8) (by omega) (by omega) (off3_at c (r := 1) (by omega)) (dev_nxt c (k0_dev11_lt c) (k0_dev11_eq c)) rfl rfl) $$ [Hst]
  · isplitr; · iexact Hr
    iexact Hst
  iintro Hst
  iapply (hop_spread (partC m ρ) K (c := c) (k := 9) (by omega) (by omega) (off3_at c (r := 2) (by omega)) (dev_nxt c (k0_dev12_lt c) (k0_dev12_eq c)) rfl rfl) $$ [Hst]
  · isplitr; · iexact Hr
    iexact Hst
  iintro Hst
  iapply (hop_spread (partC m ρ) K (c := c) (k := 10) (by omega) (by omega) (off3_at c (r := 3) (by omega)) (dev_nxt c (k0_dev13_lt c) (k0_dev13_eq c)) rfl rfl) $$ [Hst]
  · isplitr; · iexact Hr
    iexact Hst
  iintro Hst
  iapply (hop_spread (partC m ρ) K (c := c) (k := 11) (by omega) (by omega) (off3_at c (r := 4) (by omega)) (dev_nxt c (k0_dev14_lt c) (k0_dev14_eq c)) rfl rfl) $$ [Hst]
  · isplitr; · iexact Hr
    iexact Hst
  iintro Hst
  iapply (hop_spread (partC m ρ) K (c := c) (k := 12) (by omega) (by omega) (off3_at c (r := 5) (by omega)) (dev_nxt c (k0_dev15_lt c) (k0_dev15_eq c)) rfl rfl) $$ [Hst]
  · isplitr; · iexact Hr
    iexact Hst
  iintro Hst
  iapply (hop_spread (partC m ρ) K (c := c) (k := 13) (by omega) (by omega) (off3_at c (r := 6) (by omega)) (dev_nxt c (k0_dev16_lt c) (k0_dev16_eq c)) rfl rfl) $$ [Hst]
  · isplitr; · iexact Hr
    iexact Hst
  iintro Hst
  ihave Hend := (end_spread c (partC m ρ)) $$ Hst
  icases Hend with ⟨Hout, Hscr, ⟨%W', HO⟩, Hd⟩
  rw [wp_ret]; imodintro
  iapply Hk
  unfold bodyPost Φ₁ Dat.owesAt Pipeline.owesWithin wts
  rw [show (dats m ρ 0 c).owed t0_0.succ = 0 from rfl]
  icases Hwts with ⟨Hq, Hw, Hv, Hwo⟩
  isplitl [Hscr HzB Hd]
  · isplitl [Hscr]; · iexact Hscr
    isplitl [HzB]; · iexact HzB
    iexact Hd
  isplitl [HO]
  · iexists W'
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Hw]
  · iexists _; isplitr; · (ipureintro; rfl)
    iexact Hw
  isplitl [Hv]
  · iexists _; isplitr; · (ipureintro; rfl)
    iexact Hv
  isplitl [Hwo]
  · iexists _; isplitr; · (ipureintro; rfl)
    iexact Hwo
  iexists _; isplitr; · (ipureintro; rfl)
  iexact Hout

end Body

end Cert.KernelIdealProof

end
-- ==== Proof.KernelIdealLaunch.lean ====
/-
  The launch: every device's cells set up at once, the tokens of the duties handed around the ring to whoever pays
  them, the credits read off what the devices owe, and the run of the whole program.
-/
module

public import proofs.«01_k».proof.Proof.KernelIdealBody
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the launch asks for it -/

section Obligation

set_option maxRecDepth 4000 in
/-- What the launch hands the body on device `c`. -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

set_option maxRecDepth 32000 in
/-- The body meets its obligation on every device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2 cc0_scratch3) (fun _ => bodyPost m ρ c)
  unfold bodyPre' Φ₀ start
  iintro ⟨⟨⟨⟨%K, Hg⟩, Hcr, Hlev⟩, Hscr⟩, Hrest⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    iexact Hrest
  · iintro H; iexact H

end Obligation

/-! ## A device's cells, one by one -/

/-- Things held of a run of numbers are those of its first part and those of the rest. -/
theorem range_split (a b : ℕ) (Φ : ℕ → sProp 𝕄) :
    bigSep (Finset.range (a + b)) Φ = iprop(bigSep (Finset.range a) Φ ∗ bigSep (Finset.range b) fun j => Φ (a + j)) := by
  rw [show Finset.range (a + b) = Finset.range a ∪ (Finset.range b).map (addLeftEmbedding a) from by
      ext j
      simp only [Finset.mem_union, Finset.mem_range, Finset.mem_map, addLeftEmbedding_apply]
      exact ⟨fun h => (Nat.lt_or_ge j a).imp id fun h' => ⟨j - a, by omega, by omega⟩, fun h => h.elim (fun h => by omega) fun ⟨i, hi, e⟩ => by omega⟩,
    BI.bigSep_union (Finset.disjoint_left.mpr fun j hj hj' => by
      obtain ⟨i, -, e⟩ := Finset.mem_map.mp hj'
      have e' : a + i = j := e
      have := Finset.mem_range.mp hj; omega), bigSep_map]
  rfl

/-- Things held of all cells of a device: of its barrier, its send cells and its receive cells. -/
theorem cells_eq (Ψ : GSem nD τ sig → sProp 𝕄) (c : Dev nD) :
    (bigSep Finset.univ fun i : Fin 29 => Ψ (kcell (c, i)))
      = iprop(Ψ (barCell c) ∗ (bigSep (Finset.range 14) fun k => Ψ (sendCell c k)) ∗ bigSep (Finset.range 14) fun k => Ψ (recvCell c k)) := by
  rw [Ring.bigSep_fin_eq_range 29 (fun i : Fin 29 => Ψ (kcell (c, i))) (fun k => Ψ (kcell (c, Fin.ofNat 29 k)))
    fun t h => congrArg (fun i : Fin 29 => Ψ (kcell (c, i))) (Fin.ext (Nat.mod_eq_of_lt h))]
  rw [show Finset.range 29 = Finset.range (1 + 28) from rfl, range_split 1 28, show Finset.range 28 = Finset.range (14 + 14) from rfl, range_split 14 14,
    Finset.range_one, bigSep_singleton,
    bigSep_congr (s := Finset.range 14) (Φ := fun j => Ψ (kcell (c, Fin.ofNat 29 (1 + j)))) (Ψ := fun k => Ψ (sendCell c k))
      (fun j hj => congrArg Ψ (kcell_send c (Finset.mem_range.mp hj))),
    bigSep_congr (s := Finset.range 14) (Φ := fun j => Ψ (kcell (c, Fin.ofNat 29 (1 + (14 + j))))) (Ψ := fun k => Ψ (recvCell c k))
      (fun j hj => (congrArg (fun n => Ψ (kcell (c, Fin.ofNat 29 n))) (by omega : 1 + (14 + j) = 15 + j)).trans (congrArg Ψ (kcell_recv c (Finset.mem_range.mp hj))))]
  rfl

theorem kcell_injective : Function.Injective (kcell : Dev nD × Fin 29 → GSem nD τ sig) := by
  rintro ⟨c, k⟩ ⟨c', k'⟩ h
  have h1 : c = c' := by have := congrArg (fun g : GSem nD τ sig => g.1.1) h; exact this
  subst h1
  have h2 : csem k = csem k' := congrArg Prod.snd h
  have h3 : ∀ a b : Fin 29, csem a = csem b → a = b := by decide
  rw [h3 k k' h2]

/-- The cells of all devices. -/
def ringCells : Finset (GSem nD τ sig) := Finset.univ.map ⟨kcell, kcell_injective⟩

/-- The tokens of a device's own cells: the duty `false` of every cell, and the barrier's `true`. -/
abbrev tokOf (cj : Dev nD × (Fin 29 ⊕ Unit)) : GSem nD τ sig × ℕ × Bool := match cj.2 with
  | .inl i => (kcell (cj.1, i), 0, false)
  | .inr _ => (barCell cj.1, 0, true)

theorem tokOf_injective : Function.Injective (tokOf : Dev nD × (Fin 29 ⊕ Unit) → GSem nD τ sig × ℕ × Bool) := by
  rintro ⟨c, i | u⟩ ⟨c', i' | u'⟩ h
  · have h' : ((c, i) : Dev nD × Fin 29) = (c', i') := kcell_injective (congrArg Prod.fst h)
    have h1 : c = c' := congrArg Prod.fst h'
    have h2 : i = i' := congrArg Prod.snd h'
    rw [h1, h2]
  · exact absurd (congrArg (fun x : GSem nD τ sig × ℕ × Bool => x.2.2) h) (fun h' => by cases h')
  · exact absurd (congrArg (fun x : GSem nD τ sig × ℕ × Bool => x.2.2) h) (fun h' => by cases h')
  · have h1 : c = c' := congrArg (fun x : GSem nD τ sig × ℕ × Bool => x.1.1.1) h
    rw [h1]

/-- All duty tokens of the ring. -/
def ringToks : Finset (GSem nD τ sig × ℕ × Bool) := Finset.univ.map ⟨tokOf, tokOf_injective⟩

/-- The ghost state at launch: the pipeline's and the ring's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun i : Fin 29 => dutyTok ER (kcell (c, i)) 0 false) ∗ dutyTok ER (barCell c) 0 true)

/-- What the launch's ghost state gives device `c`. -/
def G (c : Dev nD) : sProp 𝕄 :=
  iprop((bigSep Finset.univ fun k : Fin 29 => roundState ER (ringRd (partC m ρ)) (kcell (c, k)) 0)
    ∗ (bigSep Finset.univ fun k : Fin 29 => iprop(atPos ER (kcell (c, k)) 0 ∅ 0 ∗ reached ER (kcell (c, k)) 0)) ∗ toks c)

/-- What the device's body starts with of it. -/
def G' (c : Dev nD) : sProp 𝕄 := iprop(∃ K, ghost m ρ K c)

/-- The ghost state at launch makes every device's share. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 29 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks; rw [BI.bigSep_univ_sum, Finset.univ_unique (α := Unit), bigSep_singleton]; rfl
  iintro HX
  imod (Rounds.fund ER (ringRd (partC m ρ)) ringCells ringToks) $$ HX with ⟨Hst, Hr, Hat, Htok⟩
  imodintro
  ihave Hst' := (Entails.of_eq (hX fun g => roundState ER (ringRd (partC m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

/-- The kernel's own semaphores: those of the transfers. -/
abbrev osem (i : Fin 28) : SemLoc sig := .dma (Fin.ofNat 34 (6 + i.val))

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = bigSep (Finset.range 14) (doneG c) := by
  unfold Pipeline.ownSems0
  rw [Ring.bigSep_fin_eq_range 28 (fun k : Fin 28 => (semVal ((c : Thread nD τ), osem k) 0 : sProp 𝕄)) (fun k => semVal ((c : Thread nD τ), SemLoc.dma (Fin.ofNat 34 (6 + k))) 0)
    fun t h => rfl]
  rw [show Finset.range 28 = Finset.range (14 + 14) from rfl, range_split 14 14,
    bigSep_congr (s := Finset.range 14) (Φ := fun j => (semVal ((c : Thread nD τ), SemLoc.dma (Fin.ofNat 34 (6 + (14 + j)))) 0 : sProp 𝕄)) (Ψ := fun k => semVal (recvCell c k) 0)
      (fun j hj => congrArg (fun n => (semVal ((c : Thread nD τ), SemLoc.dma (Fin.ofNat 34 n)) 0 : sProp 𝕄)) (by omega : 6 + (14 + j) = 20 + j)),
    ← bigSep_sep']
  rfl

/-- The barrier semaphore is the one the launch does not own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 29 => semVal (kcell (c, k)) 0 : sProp 𝕄) := by
  rw [ownSems0_eq, unscopedSems0_eq, cells_eq (fun g => (semVal g 0 : sProp 𝕄)) c, ← bigSep_sep']
  iintro ⟨HS, HB⟩
  isplitl [HB]; · iexact HB
  iexact HS

/-- A device's cells are set up. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd (partC m ρ)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 29 => semVal (kcell (c, k)) 0) ∗ bigSep Finset.univ fun k : Fin 29 => roundState ER (ringRd (partC m ρ)) (kcell (c, k)) 0)
      ⊢ (|={Set.univ}=> bigSep Finset.univ fun k => iprop(∃ κ : ℕ, cellInv ER (ringRd (partC m ρ)) κ (kcell (c, k))) : sProp 𝕄) from by
        rw [← bigSep_sep']
        exact (bigSep_mono fun k _ => (Rounds.body_intro ER (ringRd (partC m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to whoever pays -/

/-- The tokens of the duties device `c` pays. -/
def payToks (c : Dev nD) : sProp 𝕄 :=
  iprop(dutyTok ER (barCell (prv c)) 0 true ∗ dutyTok ER (barCell (nxt c)) 0 false
    ∗ (bigSep (Finset.range 14) fun k => dutyTok ER (sendCell c k) 0 false) ∗ bigSep (Finset.range 14) fun k => dutyTok ER (recvCell (nxt c) k) 0 false)

/-- Each device's tokens handed on: barrier tokens to either side, those of the receive cells to the device before. -/
theorem toks_around : (bigSep Finset.univ fun c : Dev nD => (toks c : sProp 𝕄)) ⊢ bigSep Finset.univ fun c : Dev nD => payToks c := by
  unfold toks payToks
  simp only [cells_eq (fun g => (dutyTok ER g 0 false : sProp 𝕄))]
  rw [bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep (Finset.range 14) fun k => (dutyTok ER (recvCell c k) 0 false : sProp 𝕄)))]
  iintro ⟨⟨H1, H2, H3⟩, H4⟩
  isplitl [H4]; · iexact H4
  isplitl [H1]; · iexact H1
  isplitl [H2]; · iexact H2
  iexact H3

/-- A device's positions and the tokens it pays with are what only it holds. -/
theorem linear_intro (c : Dev nD) : iprop((bigSep Finset.univ fun k : Fin 29 => atPos ER (kcell (c, k)) 0 ∅ 0) ∗ payToks c) ⊢ (linear c : sProp 𝕄) := by
  unfold payToks linear
  rw [cells_eq (fun g => (atPos ER g 0 ∅ 0 : sProp 𝕄)) c, ← Finset.range_eq_Ico]
  unfold hopTok
  rw [bigSep_sep', bigSep_sep', bigSep_sep']
  iintro ⟨⟨HB, HS, HR⟩, HtP, HtN, HtS, HtR⟩
  isplitl [HB]; · iexact HB
  isplitl [HtP]; · iexact HtP
  isplitl [HtN]; · iexact HtN
  isplitl [HtS]; · iexact HtS
  isplitl [HtR]; · iexact HtR
  isplitl [HS]; · iexact HS
  iexact HR

/-- What is known for good may be had at each of many. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 29 → ℕ) (c : Dev nD) : iprop(records (partC m ρ) K ∗ linear c) ⊢ G' m ρ c := by
  unfold G' ghost
  iintro H
  iexists K
  iexact H

theorem regroup :
    (bigSep Finset.univ fun c : Dev nD => iprop((bigSep Finset.univ fun k => iprop(∃ κ : ℕ, cellInv ER (ringRd (partC m ρ)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 29 => iprop(∃ κ : ℕ, cellInv ER (ringRd (partC m ρ)) κ (kcell ck))),
    bigSep_congr (s := Finset.univ) (fun (c : Dev nD) _ => bigSep_sep' Finset.univ (fun k : Fin 29 => (atPos ER (kcell (c, k)) 0 ∅ 0 : sProp 𝕄)) (fun k => reached ER (kcell (c, k)) 0)),
    bigSep_sep', ← bigSep_univ_prod (fun ck : Dev nD × Fin 29 => (reached ER (kcell ck) 0 : sProp 𝕄))]
  iintro ⟨HI, ⟨Hat, #HR⟩, Htok⟩
  ihave HK := (BI.bigSep_exists_pi Finset.univ (fun (ck : Dev nD × Fin 29) (κ : ℕ) => (cellInv ER (ringRd (partC m ρ)) κ (kcell ck) : sProp 𝕄))) $$ HI
  icases HK with ⟨%K, #HI⟩
  ihave Htk := (toks_around (F := F)) $$ Htok
  iapply (bigSep_with (R := records (partC m ρ) K) fun c _ => ghost_intro m ρ K c)
  isplitr
  · unfold records; isplitl; · iexact HI
    iexact HR
  · iapply ((Entails.of_eq (bigSep_sep' Finset.univ (fun c : Dev nD => bigSep Finset.univ fun k : Fin 29 => (atPos ER (kcell (c, k)) 0 ∅ 0 : sProp 𝕄)) payToks).symm).trans
      (bigSep_mono fun c _ => linear_intro c))
    isplitl [Hat]; · iexact Hat
    iexact Htk

/-- All devices' cells set up at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

theorem bar_eq_iff {a b : Dev nD} : Iff (barCell a = barCell b) (a = b) :=
  ⟨fun h => Fin.ext (congrArg (fun g : GSem nD τ sig => g.1.1.val) h), fun h => h ▸ rfl⟩
theorem recv_eq {a b : Dev nD} {j k : ℕ} (hj : j < 14) (hk : k < 14) (h : recvCell a j = recvCell b k) : a = b ∧ j = k := by
  refine ⟨Fin.ext (congrArg (fun g : GSem nD τ sig => g.1.1.val) h), ?_⟩
  have h2 : recvS j = recvS k := SemLoc.dma.inj (congrArg Prod.snd h)
  have h3 := congrArg Fin.val h2
  rw [recvS_val hj, recvS_val hk] at h3
  omega
theorem recv_ne_bar {a b : Dev nD} {k : ℕ} : recvCell a k ≠ barCell b := fun h => by cases congrArg Prod.snd h
theorem nxt_eq_iff {c d : Dev nD} : Iff (c = nxt d) (d = prv c) :=
  ⟨fun h => by rw [h, prv_nxt], fun h => by rw [h, nxt_prv]⟩
theorem prv_eq_iff {c d : Dev nD} : Iff (c = prv d) (d = nxt c) := ⟨fun h => by rw [h, nxt_prv], fun h => by rw [h, prv_nxt]⟩

theorem owed_tally (d : Dev nD) (g : GSem nD τ sig) : O₀ d g () = owedFrom d 0 g () + (if g = barCell (nxt d) then 1 else 0) + (if g = barCell (prv d) then 1 else 0) := by
  unfold O₀ O₁
  rw [Pi.add_apply, Finsupp.add_apply, Pi.add_apply, Finsupp.add_apply, tallyAt_apply, tallyAt_apply]
  simp only [and_true]

theorem owedFrom_apply (d : Dev nD) (g : GSem nD τ sig) : owedFrom d 0 g () = ∑ j ∈ Finset.Ico 0 14, if g = recvCell (nxt d) j then N else 0 := by
  unfold owedFrom
  rw [Finset.sum_apply, Finsupp.finset_sum_apply]
  refine Finset.sum_congr rfl fun j _ => ?_
  rw [tallyAt_apply]
  simp only [and_true]

/-- What device `d` owes device `c`'s barrier: a unit from either side. -/
theorem owed_bar (d c : Dev nD) : O₀ d (barCell c) () = (if d = prv c then 1 else 0) + (if d = nxt c then 1 else 0) := by
  rw [owed_tally, owedFrom_apply, Finset.sum_eq_zero (fun j _ => if_neg fun h => recv_ne_bar h.symm), Nat.zero_add]
  simp only [bar_eq_iff]
  congr 1
  · exact if_congr nxt_eq_iff rfl rfl
  · exact if_congr prv_eq_iff rfl rfl

/-- What it owes device `c`'s receive cell: a chunk's landing, if it is the device before. -/
theorem owed_recv (d c : Dev nD) {k : ℕ} (hk : k < 14) : O₀ d (recvCell c k) () = if d = prv c then N else 0 := by
  rw [owed_tally, owedFrom_apply, if_neg recv_ne_bar, if_neg recv_ne_bar, show ∀ n : ℕ, n + 0 + 0 = n from fun _ => rfl]
  rw [Finset.sum_eq_single_of_mem k (Finset.mem_Ico.mpr ⟨Nat.zero_le _, hk⟩)
    (fun j hj hne => if_neg fun h => hne (recv_eq hk (Finset.mem_Ico.mp hj).2 h).2.symm)]
  by_cases h : d = prv c
  · rw [if_pos h, h, nxt_prv, if_pos rfl]
  · rw [if_neg h, if_neg fun h' => h (nxt_eq_iff.mp (recv_eq hk hk h').1)]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]

theorem launch_recv (c : Dev nD) {k : ℕ} (hk : k < 14) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c hk, Finset.sum_ite_eq' Finset.univ (prv c) fun _ => N,
    if_pos (Finset.mem_univ _)]

/-- The launch's credits are those the body needs. -/
theorem creds (c : Dev nD) : (Pipeline.launchCred O₀ c : sProp 𝕄) ⊢ credits c := by
  unfold Pipeline.launchCred credits
  rw [bigSep_univ_at _ (SemLoc.reg barS), launch_bar]
  refine sep_mono_right ?_
  have hinj : Set.InjOn (fun k => (SemLoc.dma (recvS k) : SemLoc sig)) (Finset.Ico 0 14 : Finset ℕ) := fun j hj k hk h =>
    (recv_eq (a := c) (b := c) (Finset.mem_Ico.mp hj).2 (Finset.mem_Ico.mp hk).2 (congrArg (fun s => ((c : Thread nD τ), s)) h)).2
  refine (BI.bigSep_subset (t := (Finset.Ico 0 14).image fun k => (SemLoc.dma (recvS k) : SemLoc sig)) ?_).trans ?_
  · intro s hs
    obtain ⟨k, -, rfl⟩ := Finset.mem_image.mp hs
    exact Finset.mem_erase.mpr ⟨fun h => (by cases h), Finset.mem_univ _⟩
  · rw [bigSep_image_of_injOn hinj]
    exact bigSep_mono fun k hk => Entails.of_eq (congrArg (fun T : CellTallies nD τ sig Unit => (cred T : sProp 𝕄)) (launch_recv c (Finset.mem_Ico.mp hk).2))

/-! ## The conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hr, HzB, Hd⟩
  isplitl [HzB]; · iexact HzB
  isplitl [Hd]; · iexact Hd
  iexists (commC (partC m ρ) c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The contents of window `w`'s array on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters zero, every fair run of the program ends, with every window's array at its
    final contents and all counters zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealProof

end
-- ==== Proof.Math.lean ====
/-
  The function both programs compute, on extended reals: one head's rotary attention and its product with the head's
  rows of the output matrix. And the rotation's angle, which the kernel writes as an exponential of a logarithm and the
  reference as the reciprocal of a power.
-/
module

public import Idealize.ShloMosaic.Lib.Pointwise
public import Idealize.ShloMosaic.Lib.KernelVsHost
public import Idealize.ShloMosaic.Lib.IdealHost

@[expose] public section

noncomputable section

namespace Cert.Attn

open Idealize.ShloMosaic
open scoped BigOperators

/-- A matrix by row and column. -/
def mat {a b : ℕ} (v : (⟨2, ![a, b]⟩ : Shape).Idx → EReal) (i : Fin a) (j : Fin b) : EReal := v (ix2 i j)

/-! ## The function -/

/-- The rotation's angle at a row and a lane. -/
def angle (r : Fin 1024) (d : Fin 128) : ℝ := (r.val : ℝ) * (1 / (10000 : ℝ) ^ (((2 * (d.val / 2) : ℕ) : ℝ) / 128))

/-- The next lane and the lane before, around the end. -/
def up (d : Fin 128) : Fin 128 := ⟨(d.val + 1) % 128, Nat.mod_lt _ (by norm_num)⟩
def dn (d : Fin 128) : Fin 128 := ⟨(d.val + 127) % 128, Nat.mod_lt _ (by norm_num)⟩

/-- Each pair of lanes turned by its angle. -/
def ropeS (t : Fin 1024 → Fin 128 → EReal) (r : Fin 1024) (d : Fin 128) : EReal :=
  t r d * (Real.cos (angle r d) : EReal) + (if d.val % 2 = 0 then -(t r (up d)) else t r (dn d)) * (Real.sin (angle r d) : EReal)

/-- The input times a head's columns of a weight. -/
def projS (x : Fin 1024 → Fin 1024 → EReal) (w : Fin 1024 → Fin 128 → EReal) (r : Fin 1024) (d : Fin 128) : EReal :=
  ∑ e : Fin 1024, x r e * w e d

/-- The scaled scores. -/
def scoreS (q k : Fin 1024 → Fin 128 → EReal) (r j : Fin 1024) : EReal :=
  (∑ d : Fin 128, q r d * k j d) * Ideal.ofBits .f32 0x3DB504F3#32

/-- Their exponentials below the row's greatest, -/
def expS (s : Fin 1024 → Fin 1024 → EReal) (r j : Fin 1024) : EReal :=
  Ideal.exp (s r j - Finset.univ.fold max (Ideal.ofBits .f32 0xFF800000#32) (fun k => s r k))
/-- and these over their row's sum. -/
def softS (s : Fin 1024 → Fin 1024 → EReal) (r j : Fin 1024) : EReal :=
  Ideal.div (expS s r j) (∑ k : Fin 1024, expS s r k)

/-- A head's attention output. -/
def ctxS (x : Fin 1024 → Fin 1024 → EReal) (wq wk wv : Fin 1024 → Fin 128 → EReal) (r : Fin 1024) (d : Fin 128) : EReal :=
  ∑ j : Fin 1024, softS (scoreS (ropeS (projS x wq)) (ropeS (projS x wk))) r j * projS x wv j d

/-- A head's contribution to the result. -/
def headS (x : Fin 1024 → Fin 1024 → EReal) (wq wk wv : Fin 1024 → Fin 128 → EReal) (wo : Fin 128 → Fin 1024 → EReal)
    (r n : Fin 1024) : EReal :=
  ∑ d : Fin 128, ctxS x wq wk wv r d * wo d n

/-! ## The constants and the angle -/

/-- The word of ten thousand. -/
theorem ofBits_tenThousand : Ideal.ofBits .f32 0x461C4000#32 = ((10000 : ℝ) : EReal) := by
  simp [Ideal.ofBits, Ideal.ieee, -EReal.coe_mul]; norm_num

/-- The word of one hundred and twenty-eight. -/
theorem ofBits_width : Ideal.ofBits .f32 0x43000000#32 = ((128 : ℝ) : EReal) := by
  simp [Ideal.ofBits, Ideal.ieee, -EReal.coe_mul]; norm_num

/-- A small number's word converted to a float is the number. -/
theorem sitofp_small (n : ℕ) (h : n < 2 ^ 31) : (FloatOps.sitofp FTy.f32 (BitVec.ofNat 32 n) : Ideal .f32) = ((n : ℝ) : EReal) := by
  show (((BitVec.ofNat 32 n).toInt : ℝ) : EReal) = _
  rw [BitVec.toInt_eq_toNat_of_lt (by rw [BitVec.toNat_ofNat]; omega), BitVec.toNat_ofNat,
    Nat.mod_eq_of_lt (by omega)]
  simp

/-- A quotient of two reals, the lower one not zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The kernel's frequency is the reciprocal of a power. -/
theorem freq_exp (n : ℝ) :
    Ideal.exp (Ideal.div ((0 - Ideal.log (Ideal.ofBits .f32 0x461C4000#32)) * (n : EReal)) (Ideal.ofBits .f32 0x43000000#32))
      = ((1 / (10000 : ℝ) ^ (n / 128) : ℝ) : EReal) := by
  rw [ofBits_tenThousand, ofBits_width]
  have hl : Ideal.log ((10000 : ℝ) : EReal) = ((Real.log 10000 : ℝ) : EReal) := by
    show (if (10000 : ℝ) ≤ 0 then (⊥ : EReal) else (Real.log 10000 : EReal)) = _
    rw [if_neg (by norm_num)]
  rw [hl, zero_sub, ← EReal.coe_neg, ← EReal.coe_mul, div_coe _ _ (by norm_num)]
  show ((Real.exp _ : ℝ) : EReal) = _
  congr 1
  rw [Real.rpow_def_of_pos (by norm_num), one_div, ← Real.exp_neg]
  congr 1; ring

/-- The reference's frequency is the same. -/
theorem freq_pow (n : ℝ) :
    Ideal.div (Ideal.ofBits .f32 0x3F800000#32)
        (Ideal.pow (Ideal.ofBits .f32 0x461C4000#32) (Ideal.div (n : EReal) (Ideal.ofBits .f32 0x43000000#32)))
      = ((1 / (10000 : ℝ) ^ (n / 128) : ℝ) : EReal) := by
  rw [ofBits_tenThousand, ofBits_width, Ideal.ofBits_one_f32, div_coe _ _ (by norm_num)]
  show Ideal.div 1 (((10000 : ℝ) ^ (n / 128) : ℝ) : EReal) = _
  exact div_coe 1 _ (Real.rpow_pos_of_pos (by norm_num) _).ne'

/-- The cosine and sine of a real. -/
theorem cos_coe (x : ℝ) : Ideal.cos (x : EReal) = (Real.cos x : EReal) := rfl
theorem sin_coe (x : ℝ) : Ideal.sin (x : EReal) = (Real.sin x : EReal) := rfl

end Cert.Attn

end
-- ==== Proof.KernelIdealValue.lean ====
/-
  What the kernel's partial result is on extended reals: at each row and column, the sum of its eight heads'
  contributions.
-/
module

public import proofs.«01_k».proof.Proof.KernelIdealHead
public import proofs.«01_k».proof.Proof.Math

@[expose] public section

noncomputable section

namespace Cert.KernelIdealProof

open Cert.KernelIdeal Cert.KernelIdeal.Gen Cert.Attn

open Idealize.ShloMosaic
open scoped BigOperators

/-! ## The tables -/

/-- Twice the lane's pair, as the kernel's words compute it. -/
theorem lane_word : ∀ d : Fin 128,
    IntOp.muli
      (Scalar.select
        (IntOp.andi
          (IntOp.cmpi CmpIPredicate.ne
            (IntOp.subi (BitVec.setWidth 32 (IntOp.cmpi CmpIPredicate.sgt (BitVec.ofNat 32 d.val) 0#32))
              (BitVec.setWidth 32 (IntOp.cmpi CmpIPredicate.slt (BitVec.ofNat 32 d.val) 0#32)))
            (Scalar.subi (Scalar.extui (Scalar.cmpi CmpIPredicate.sgt 2#32 0#32))
              (Scalar.extui (Scalar.cmpi CmpIPredicate.slt 2#32 0#32))))
          (IntOp.cmpi CmpIPredicate.ne (IntOp.remsi ArithUnit.vector (BitVec.ofNat 32 d.val) 2#32) 0#32))
        (IntOp.subi (IntOp.divsi ArithUnit.vector (BitVec.ofNat 32 d.val) 2#32) 1#32)
        (IntOp.divsi ArithUnit.vector (BitVec.ofNat 32 d.val) 2#32))
      2#32 = BitVec.ofNat 32 (2 * (d.val / 2)) := by decide +kernel

/-- The angle table. -/
theorem ang_at (r : Fin 1024) (d : Fin 128) : mat (angV (F := Ideal)) r d = (angle r d : EReal) := by
  unfold mat
  pointwise [angV, k0_pay6, k0_pay2, k0_pay3, k0_pay4, k0_pay5, laneV]
  rw [lane_word d, sitofp_small _ (by omega), sitofp_small _ (by omega)]
  refine (congrArg (((r.val : ℝ) : EReal) * ·) (freq_exp _)).trans ?_
  rw [← EReal.coe_mul]; rfl

/-- The cosine and the sine tables. -/
theorem cos_at (r : Fin 1024) (d : Fin 128) : mat (cosV (F := Ideal)) r d = (Real.cos (angle r d) : EReal) :=
  (congrArg Ideal.cos (ang_at r d)).trans (cos_coe _)
theorem sin_at (r : Fin 1024) (d : Fin 128) : mat (sinV (F := Ideal)) r d = (Real.sin (angle r d) : EReal) :=
  (congrArg Ideal.sin (ang_at r d)).trans (sin_coe _)

/-- The even lanes, as the kernel's words tell them. -/
theorem even_word : ∀ d : Fin 128,
    IntOp.cmpi CmpIPredicate.eq
      (Scalar.select
        (IntOp.andi
          (IntOp.xori
            (IntOp.cmpi CmpIPredicate.slt
              (IntOp.remsi ArithUnit.vector (BitVec.ofNat 32 d.val)
                (Scalar.select (Scalar.cmpi CmpIPredicate.eq 2#32 0#32) 1#32 2#32))
              0#32)
            (Scalar.cmpi CmpIPredicate.slt (Scalar.select (Scalar.cmpi CmpIPredicate.eq 2#32 0#32) 1#32 2#32) 0#32))
          (IntOp.cmpi CmpIPredicate.ne
            (IntOp.remsi ArithUnit.vector (BitVec.ofNat 32 d.val)
              (Scalar.select (Scalar.cmpi CmpIPredicate.eq 2#32 0#32) 1#32 2#32))
            0#32))
        (IntOp.addi
          (IntOp.remsi ArithUnit.vector (BitVec.ofNat 32 d.val)
            (Scalar.select (Scalar.cmpi CmpIPredicate.eq 2#32 0#32) 1#32 2#32))
          (Scalar.select (Scalar.cmpi CmpIPredicate.eq 2#32 0#32) 1#32 2#32))
        (IntOp.remsi ArithUnit.vector (BitVec.ofNat 32 d.val)
          (Scalar.select (Scalar.cmpi CmpIPredicate.eq 2#32 0#32) 1#32 2#32)))
      0#32 = if d.val % 2 = 0 then 1#1 else 0#1 := by decide +kernel

theorem even_at (r : Fin 1024) (d : Fin 128) :
    evenV (Idealize.ShloMosaic.ix2 r d) = if d.val % 2 = 0 then 1#1 else 0#1 := by
  pointwise [evenV, k0_pay9, laneV]
  exact even_word d

/-! ## One head -/

/-- The rotation. -/
theorem rope_at (t : FVec Ideal S1024x128 .f32) : mat (ropeV t) = ropeS (mat t) := by
  funext r d
  have hc := cos_at r d
  have hs := sin_at r d
  unfold mat ropeS at *
  pointwise [ropeV]
  rw [hc, hs, even_at, zero_sub]
  have e1 : (⟨(d.val + 128 - 127) % 128, Nat.mod_lt _ (by norm_num)⟩ : Fin 128) = up d := Fin.ext (by show _ % 128 = _ % 128; congr 1)
  have e2 : (⟨(d.val + 128 - 1) % 128, Nat.mod_lt _ (by norm_num)⟩ : Fin 128) = dn d := Fin.ext (by show _ % 128 = _ % 128; congr 1)
  rw [e1, e2]
  by_cases h : d.val % 2 = 0
  · rw [if_pos h, if_pos h]; rfl
  · rw [if_neg h, if_neg h]; rfl

/-- A projection. -/
theorem proj_at (x : FVec Ideal S1024x1024 .f32) (w : Vec Ideal S1024x128 .f32) : mat (projV x w) = projS (mat x) (mat w) := by
  funext r d
  unfold mat projS
  pointwise [projV]

/-- The scores. -/
theorem score_at (q k : FVec Ideal S1024x128 .f32) : mat (scoreV q k) = scoreS (mat q) (mat k) := by
  funext r j
  unfold mat scoreS
  pointwise [scoreV]

/-- The weights. -/
theorem soft_at (s : FVec Ideal S1024x1024 .f32) : mat (softV s) = softS (mat s) := by
  funext r j
  unfold mat softS expS
  pointwise [softV, expsV, rowsV]

/-- A head's contribution. -/
theorem head_at (x : FVec Ideal S1024x1024 .f32) (q k v : Vec Ideal S1024x128 .f32) (o : Vec Ideal S128x1024 .f32) :
    mat (headV x q k v o) = headS (mat x) (mat q) (mat k) (mat v) (mat o) := by
  funext r n
  unfold headS ctxS
  rw [← proj_at, ← proj_at, ← proj_at, ← rope_at, ← rope_at, ← score_at, ← soft_at]
  unfold mat
  pointwise [headV]

/-! ## The partial result -/

/-- Lane `d` of head `h` among a device's columns. -/
def col8 (h : Fin 8) (d : Fin 128) : Fin 1024 := ⟨128 * h.val + d.val, by omega⟩

theorem cols_at (w : OutV Ideal) (h : Fin 8) (e : Fin 1024) (d : Fin 128) : mat (colsV w h) e d = mat w e (col8 h d) := by
  unfold mat colsV
  refine congrArg w (funext fun a => ?_)
  fin_cases a <;> exact Fin.ext (by simp [col8])
theorem rows_at (w : OutV Ideal) (h : Fin 8) (d : Fin 128) (n : Fin 1024) : mat (rowsOfV w h) d n = mat w (col8 h d) n := by
  unfold mat rowsOfV
  refine congrArg w (funext fun a => ?_)
  fin_cases a <;> exact Fin.ext (by simp [col8])

/-- The input with its unit axis dropped. -/
theorem x_at (x : Vec Ideal S1x1024x1024 .f32) (r e : Fin 1024) : mat (k0_pay1 x) r e = x (Idealize.ShloMosaic.ix3 0 r e) := by
  unfold mat
  pointwise [k0_pay1]

/-- The partial result is the sum of the heads' contributions. -/
theorem part_at (x : Vec Ideal S1x1024x1024 .f32) (wq wk wv wo : OutV Ideal) (r n : Fin 1024) :
    mat (partV x wq wk wv wo) r n
      = ∑ h : Fin 8, headS (fun r e => x (Idealize.ShloMosaic.ix3 0 r e)) (fun e d => mat wq e (col8 h d)) (fun e d => mat wk e (col8 h d))
          (fun e d => mat wv e (col8 h d)) (fun d n => mat wo (col8 h d) n) r n := by
  have hh : ∀ h : Fin 8, mat (headOf x wq wk wv wo h) r n
      = headS (fun r e => x (Idealize.ShloMosaic.ix3 0 r e)) (fun e d => mat wq e (col8 h d)) (fun e d => mat wk e (col8 h d))
          (fun e d => mat wv e (col8 h d)) (fun d n => mat wo (col8 h d) n) r n := fun h => by
    unfold headOf
    rw [head_at]
    simp only [show mat (k0_pay1 x) = _ from funext fun r => funext fun e => x_at x r e,
      show ∀ w, mat (colsV w h) = _ from fun w => funext fun e => funext fun d => cols_at w h e d,
      show ∀ w, mat (rowsOfV w h) = _ from fun w => funext fun d => funext fun n => rows_at w h d n]
  simp only [← hh, Fin.sum_univ_eight]
  unfold mat
  pointwise [partV, k0_pay10]

end Cert.KernelIdealProof

end
-- ==== Proof.KernelIdealTotal.lean ====
/-
  What every device's result array holds after the run: at each row and column the sum over the devices of their
  partial results.
-/
module

public import proofs.«01_k».proof.Proof.KernelIdealLaunch
public import proofs.«01_k».proof.Proof.KernelIdealValue

@[expose] public section

noncomputable section

namespace Cert.KernelIdealProof

open Cert.KernelIdeal Cert.KernelIdeal.Gen Cert.Attn

open Idealize.ShloMosaic
open Idealize.ShloMosaic.TcCoe
open scoped BigOperators

/-! ## The arrays -/

section Arrays

variable {F : FTy → Type} [FloatOps F]
variable (m : (ℓ : Loc nD τ sig) → Buf (Elt F) ℓ) (ρ : Dev nD → PrngReg)

/-- The result array's one block is the whole of it, and it is written once, with what the body left. -/
theorem final_out (c : Dev nD) : finalA m ρ c (5 : Fin 6) = outC m ρ := by
  have h : (win0_5.blk (0 : Fin 1)).view.read (Elt F) (finalA m ρ c (5 : Fin 6)) = outC m ρ := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  have hz : (fun a => (win0_5.index (0 : Fin 1)) a * main_v1.ty.shape.size a) = fun _ => 0 :=
    funext fun a => by fin_cases a <;> decide
  have hr := fun f => Memref.read_access_unit_zero (Elt F) main_v1 hz (fun a => by fin_cases a <;> decide) f
  exact (hr _).symm.trans h

/-- Each argument's one block is the whole array, -/
theorem xin_eq (c : Dev nD) : xin m ρ c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _
theorem wqin_eq (c : Dev nD) : wqin m ρ c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _
theorem wkin_eq (c : Dev nD) : wkin m ρ c = m ((c : Thread nD τ).loc main_arg2) :=
  Memref.read_access_unit_zero (Elt F) main_arg2 (off := fun a => (win0_2.index (0 : Fin 1)) a * main_arg2.ty.shape.size a)
    (funext fun a => by fin_cases a <;> decide) (fun a => by fin_cases a <;> decide) _
theorem wvin_eq (c : Dev nD) : wvin m ρ c = m ((c : Thread nD τ).loc main_arg3) :=
  Memref.read_access_unit_zero (Elt F) main_arg3 (off := fun a => (win0_3.index (0 : Fin 1)) a * main_arg3.ty.shape.size a)
    (funext fun a => by fin_cases a <;> decide) (fun a => by fin_cases a <;> decide) _
theorem woin_eq (c : Dev nD) : woin m ρ c = m ((c : Thread nD τ).loc main_arg4) :=
  Memref.read_access_unit_zero (Elt F) main_arg4 (off := fun a => (win0_4.index (0 : Fin 1)) a * main_arg4.ty.shape.size a)
    (funext fun a => by fin_cases a <;> decide) (fun a => by fin_cases a <;> decide) _

/-- so a device's partial result is that of its argument arrays. -/
theorem partC_eq (c : Dev nD) : partC m ρ c = partV (m ((c : Thread nD τ).loc main_arg0)) (m ((c : Thread nD τ).loc main_arg1))
    (m ((c : Thread nD τ).loc main_arg2)) (m ((c : Thread nD τ).loc main_arg3)) (m ((c : Thread nD τ).loc main_arg4)) := by
  unfold partC
  rw [xin_eq, wqin_eq, wkin_eq, wvin_eq, woin_eq]

end Arrays

/-! ## The sum over the devices -/

/-- The devices in the order a row's chunk meets them are all the devices. -/
theorem rowDev_bijective (k : ℕ) : Function.Bijective fun j : Fin 8 => (rowDev k j.val : Fin 8) := by
  have h : ∀ k j, (rowDev k j).val = (k / 128 + j) % 8 := fun _ _ => rfl
  refine (Finite.injective_iff_bijective).1 fun a b e => Fin.ext ?_
  have := congrArg Fin.val e
  simp only [h] at this
  omega

/-- The accumulated chunks, all devices visited, are the sum over the devices. -/
theorem acc_at (pt : Dev nD → OutV Ideal) (r n : Fin 1024) : mat (acc pt 7) r n = ∑ c : Fin 8, mat (pt c) r n := by
  rw [← (rowDev_bijective r.val).sum_comp (fun c => mat (pt c) r n)]
  rw [Fin.sum_univ_eight]
  show (mat (pt (rowDev r.val 7)) r n + (mat (pt (rowDev r.val 6)) r n + (mat (pt (rowDev r.val 5)) r n + (mat (pt (rowDev r.val 4)) r n
    + (mat (pt (rowDev r.val 3)) r n + (mat (pt (rowDev r.val 2)) r n + (mat (pt (rowDev r.val 1)) r n + mat (pt (rowDev r.val 0)) r n)))))) : EReal) = _
  simp only [add_comm, add_left_comm, add_assoc]
  rfl

end Cert.KernelIdealProof

end
-- ==== Proof.ReferenceIdealValue.lean ====
/-
  What the reference's result is on extended reals: at each row and column, the sum over all sixty-four heads of the
  head's contribution.
-/
module

public import proofs.«01_k».proof.Proof.Gen.ReferenceIdeal.Run
public import proofs.«01_k».proof.Proof.Math

@[expose] public section

noncomputable section

namespace Cert.ReferenceIdealProof

open Cert.ReferenceIdeal Cert.ReferenceIdeal.Gen Cert.Attn

open Idealize.ShloMosaic
open Idealize.ShloMosaic.TcCoe
open scoped BigOperators

variable {F : FTy → Type} [FloatOps F]

/-! ## The reference's term, part by part -/

/-- The frequencies, -/
def freqR : FVec F S64 .f32 :=
  Host.divf (broadcastInDim S64 ![] bcast_S_S64 (constant S_ .f32 0x3F800000#32))
    (Host.powf (broadcastInDim S64 ![] bcast_S_S64 (constant S_ .f32 0x461C4000#32))
      (Host.divf (sitofp .f32 (addi (broadcastInDim S64 ![] bcast_S_S64 (constantI S_ 32 0#32))
          (muli (broadcastInDim S64 ![] bcast_S_S64 (constantI S_ 32 2#32)) (iotaInDim S64 32 0))))
        (broadcastInDim S64 ![] bcast_S_S64 (constant S_ .f32 0x43000000#32))))
/-- the angles, one for each row and pair of lanes, -/
def angR : FVec F S1024x64 .f32 :=
  mulf (broadcastInDim S1024x64 ![0, 1] bcast_S1024x1_S1024x64_0_1 (sitofp .f32 (broadcastInDim S1024x1 ![0] bcast_S1024_S1024x1_0 (iotaInDim S1024 32 0))))
    (broadcastInDim S1024x64 ![0, 1] bcast_S1x64_S1024x64_0_1 (broadcastInDim S1x64 ![1] bcast_S64_S1x64_1 freqR))
/-- a table of these spread over both lanes of a pair, -/
def lanesR (v : FVec F S1024x64 .f32) : FVec F S1024x128 .f32 :=
  shapeCast _ (broadcastInDim S1024x64x2 ![0, 1] bcast_S1024x64_S1024x64x2_0_1 v) shapeCasts_S1024x64x2_S1024x128
/-- and over the heads. -/
def tabR (v : FVec F S1024x128 .f32) : FVec F S1x1024x64x128 .f32 :=
  broadcastInDim S1x1024x64x128 ![0, 1, 2, 3] bcast_S1x1024x1x128_S1x1024x64x128_0_1_2_3
    (broadcastInDim S1x1024x1x128 ![1, 3] bcast_S1024x128_S1x1024x1x128_1_3 v)

/-- A projection, by heads. -/
def projR (x : FVec F S1x1024x1024 .f32) (w : FVec F S1024x8192 .f32) : FVec F S1x1024x64x128 .f32 :=
  shapeCast _ (Host.dotGeneral dot_S1x1024x1024_S1024x8192_S1x1024x8192_2_0_01_1_n_n none x w) shapeCasts_S1x1024x8192_S1x1024x64x128

/-- One lane of each pair. -/
def oddR (t : FVec F S1x1024x64x128 .f32) : FVec F S1x1024x64x64 .f32 :=
  shapeCast _ (extractStridedSlice S1x1024x64x64x1 ![0, 0, 0, 0, 1] (shapeCast _ t shapeCasts_S1x1024x64x128_S1x1024x64x64x2)
    slices_S1x1024x64x64x2_S1x1024x64x64x1_0_0_0_0_1) shapeCasts_S1x1024x64x64x1_S1x1024x64x64
def evnR (t : FVec F S1x1024x64x128 .f32) : FVec F S1x1024x64x64 .f32 :=
  shapeCast _ (extractStridedSlice S1x1024x64x64x1 ![0, 0, 0, 0, 0] (shapeCast _ t shapeCasts_S1x1024x64x128_S1x1024x64x64x2)
    slices_S1x1024x64x64x2_S1x1024x64x64x1_0_0_0_0_0) shapeCasts_S1x1024x64x64x1_S1x1024x64x64
/-- Two tables of single lanes laid together as pairs. -/
def pairR (a b : FVec F S1x1024x64x64 .f32) : FVec F S1x1024x64x128 .f32 :=
  shapeCast _ (concatenate S1x1024x64x64x2 4
    [⟨S1x1024x64x64x1, broadcastInDim S1x1024x64x64x1 ![0, 1, 2, 3] bcast_S1x1024x64x64_S1x1024x64x64x1_0_1_2_3 a⟩,
     ⟨S1x1024x64x64x1, broadcastInDim S1x1024x64x64x1 ![0, 1, 2, 3] bcast_S1x1024x64x64_S1x1024x64x64x1_0_1_2_3 b⟩]
    concatenates_S1x1024x64x64x1_S1x1024x64x64x1_S1x1024x64x64x2_d4) shapeCasts_S1x1024x64x64x2_S1x1024x64x128

/-- The rotation. -/
def ropeR (t : FVec F S1x1024x64x128 .f32) : FVec F S1x1024x64x128 .f32 :=
  addf (mulf t (tabR (lanesR (Host.cos angR)))) (mulf (pairR (Host.negf (oddR t)) (evnR t)) (tabR (lanesR (Host.sin angR))))

/-- The scaled scores, -/
def scoreR (q k : FVec F S1x1024x64x128 .f32) : FVec F S1x64x1024x1024 .f32 :=
  mulf (Host.dotGeneral dot_S1x1024x64x128_S1x1024x64x128_S1x64x1024x1024_3_3_1_1_02_02 none q k)
    (broadcastInDim S1x64x1024x1024 ![] bcast_S_S1x64x1024x1024 (constant S_ .f32 0x3DB504F3#32))
/-- a row's number spread over its lanes, -/
def rowsR (v : FVec F S1x64x1024 .f32) : FVec F S1x64x1024x1024 .f32 :=
  broadcastInDim S1x64x1024x1024 ![0, 1, 2, 3] bcast_S1x64x1024x1_S1x64x1024x1024_0_1_2_3
    (broadcastInDim S1x64x1024x1 ![0, 1, 2] bcast_S1x64x1024_S1x64x1024x1_0_1_2 v)
/-- the scores' exponentials below the row's greatest, -/
def expsR (s : FVec F S1x64x1024x1024 .f32) : FVec F S1x64x1024x1024 .f32 :=
  Host.exp (subf s (rowsR (Host.reduce FloatOps.maximumf s (constant S_ .f32 0xFF800000#32) reducesTo_S1x64x1024x1024_S1x64x1024_d3 h_S_)))
/-- and these over their row's sum. -/
def softR (s : FVec F S1x64x1024x1024 .f32) : FVec F S1x64x1024x1024 .f32 :=
  Host.divf (expsR s) (rowsR (Host.reduceAdd (expsR s) (constant S_ .f32 0x00000000#32) reducesTo_S1x64x1024x1024_S1x64x1024_d3 h_S_))

/-- The heads' attention outputs, side by side. -/
def ctxR (x : FVec F S1x1024x1024 .f32) (wq wk wv : FVec F S1024x8192 .f32) : FVec F S1x1024x8192 .f32 :=
  shapeCast _ (transpose S1x1024x64x128 [0, 3, 1, 2]
    (Host.dotGeneral dot_S1x1024x64x128_S1x64x1024x1024_S1x64x128x1024_1_3_3_2_02_01 none (projR x wv)
      (softR (scoreR (ropeR (projR x wq)) (ropeR (projR x wk))))) transposes_S1x64x128x1024_S1x1024x64x128_0_3_1_2) shapeCasts_S1x1024x64x128_S1x1024x8192

/-- The result. -/
def outR (x : FVec F S1x1024x1024 .f32) (wq wk wv : FVec F S1024x8192 .f32) (wo : FVec F S8192x1024 .f32) : FVec F S1024x1024 .f32 :=
  shapeCast _ (Host.dotGeneral dot_S1x1024x8192_S8192x1024_S1x1024x1024_2_0_01_1_n_n none (ctxR x wq wk wv) wo) shapeCasts_S1x1024x1024_S1024x1024

set_option maxRecDepth 8192 in
/-- The composed term of the reference's run is these parts. -/
theorem res_eq (m : (ℓ : Loc nD τ sig) → Buf (Elt F) ℓ) (c : Dev nD) :
    Value.res_main_v81 m c = outR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v81
  rfl

/-! ## The tables -/

theorem freq_word : ∀ p : Fin 64,
    IntOp.addi (0#32) (IntOp.muli (2#32) (BitVec.ofNat 32 p.val)) = BitVec.ofNat 32 (2 * p.val) := by decide +kernel

/-- The frequency of a pair. -/
theorem freq_at (p : Fin 64) :
    freqR (F := Ideal) (Idealize.ShloMosaic.ix1 p) = ((1 / (10000 : ℝ) ^ (((2 * p.val : ℕ) : ℝ) / 128) : ℝ) : EReal) := by
  pointwise [freqR]
  rw [freq_word, sitofp_small _ (by omega), ← Ideal.ofBits_one_f32]
  exact freq_pow _

/-- The angle of a row and a lane. -/
theorem ang_at (r : Fin 1024) (d : Fin 128) :
    mat (angR (F := Ideal)) r ⟨d.val / 2, by omega⟩ = (angle r d : EReal) := by
  unfold mat
  pointwise [angR]
  rw [freq_at, sitofp_small _ (by omega), ← EReal.coe_mul]
  rfl

/-- The cosine and the sine tables. -/
theorem cos_at (r : Fin 1024) (d : Fin 128) : mat (lanesR (Host.cos (angR (F := Ideal)))) r d = (Real.cos (angle r d) : EReal) := by
  have h := ang_at r d
  unfold mat at *
  pointwise [lanesR]
  exact (congrArg Ideal.cos h).trans (cos_coe _)
theorem sin_at (r : Fin 1024) (d : Fin 128) : mat (lanesR (Host.sin (angR (F := Ideal)))) r d = (Real.sin (angle r d) : EReal) := by
  have h := ang_at r d
  unfold mat at *
  pointwise [lanesR]
  exact (congrArg Ideal.sin h).trans (sin_coe _)

/-! ## One head -/

/-- A head's rows out of a table of all heads', -/
def slab (t : FVec Ideal S1x1024x64x128 .f32) (h : Fin 64) (r : Fin 1024) (d : Fin 128) : EReal := t (Idealize.ShloMosaic.ix4 0 r h d)
/-- and its square out of a table of squares. -/
def plane (t : FVec Ideal S1x64x1024x1024 .f32) (h : Fin 64) (r j : Fin 1024) : EReal := t (Idealize.ShloMosaic.ix4 0 h r j)
/-- Lane `d` of head `h` among all columns. -/
def col64 (h : Fin 64) (d : Fin 128) : Fin 8192 := ⟨h.val * 128 + d.val, by omega⟩

/-- A projection. -/
theorem proj_at (x : FVec Ideal S1x1024x1024 .f32) (w : FVec Ideal S1024x8192 .f32) (h : Fin 64) :
    slab (projR x w) h = projS (fun r e => x (Idealize.ShloMosaic.ix3 0 r e)) (fun e d => mat w e (col64 h d)) := by
  funext r d
  unfold slab projS mat col64
  pointwise [projR]

/-- The rotation. -/
theorem rope_at (t : FVec Ideal S1x1024x64x128 .f32) (h : Fin 64) : slab (ropeR t) h = ropeS (slab t h) := by
  funext r d
  have hc := cos_at r d
  have hs := sin_at r d
  unfold mat slab ropeS at *
  pointwise [ropeR, tabR]
  rw [hc, hs]
  congr 2
  pointwise [pairR, oddR, evnR]
  by_cases hd : d.val % 2 = 0
  · have e : (⟨d.val / 2 * 2 + 1, by omega⟩ : Fin 128) = up d := Fin.ext (by show d.val / 2 * 2 + 1 = (d.val + 1) % 128; omega)
    rw [dif_pos (by omega), if_pos hd, e]
  · have e : (⟨d.val / 2 * 2, by omega⟩ : Fin 128) = dn d := Fin.ext (by show d.val / 2 * 2 = (d.val + 127) % 128; omega)
    rw [dif_neg (by omega), if_neg hd, e]

/-- The scores. -/
theorem score_at (q k : FVec Ideal S1x1024x64x128 .f32) (h : Fin 64) : plane (scoreR q k) h = scoreS (slab q h) (slab k h) := by
  funext r j
  unfold plane slab scoreS
  pointwise [scoreR]

/-- The weights. -/
theorem soft_at (s : FVec Ideal S1x64x1024x1024 .f32) (h : Fin 64) : plane (softR s) h = softS (plane s h) := by
  funext r j
  unfold plane softS expS
  pointwise [softR, expsR, rowsR]

/-- The attention output. -/
theorem ctx_at (x : FVec Ideal S1x1024x1024 .f32) (q k v : FVec Ideal S1024x8192 .f32) (h : Fin 64) (r : Fin 1024) (d : Fin 128) :
    ctxR x q k v (Idealize.ShloMosaic.ix3 0 r (col64 h d))
      = ctxS (fun r e => x (Idealize.ShloMosaic.ix3 0 r e)) (fun e d => mat q e (col64 h d)) (fun e d => mat k e (col64 h d))
          (fun e d => mat v e (col64 h d)) r d := by
  unfold ctxS
  rw [← proj_at, ← proj_at, ← proj_at, ← rope_at, ← rope_at, ← score_at, ← soft_at]
  unfold plane slab
  pointwise [ctxR]
  have e1 : (⟨(col64 h d).val / 128, by omega⟩ : Fin 64) = h := Fin.ext (by show (h.val * 128 + d.val) / 128 = _; omega)
  have e2 : (⟨(col64 h d).val % 128, by omega⟩ : Fin 128) = d := Fin.ext (by show (h.val * 128 + d.val) % 128 = _; omega)
  rw [e1, e2]
  exact Finset.sum_congr rfl fun j _ => mul_comm _ _

/-! ## The result -/

/-- A sum over all columns is one over the heads and their lanes. -/
theorem sum_cols (f : Fin 8192 → EReal) : ∑ n, f n = ∑ h : Fin 64, ∑ d : Fin 128, f (col64 h d) := by
  rw [← Fintype.sum_prod_type']
  refine (Fintype.sum_equiv (finProdFinEquiv (m := 64) (n := 128)) _ _ fun p => ?_).symm
  exact congrArg f (Fin.ext (by show p.1.val * 128 + p.2.val = p.2.val + 128 * p.1.val; omega))

/-- The result is the sum of all heads' contributions. -/
theorem out_at (x : FVec Ideal S1x1024x1024 .f32) (q k v : FVec Ideal S1024x8192 .f32) (o : FVec Ideal S8192x1024 .f32) (r n : Fin 1024) :
    mat (outR x q k v o) r n
      = ∑ h : Fin 64, headS (fun r e => x (Idealize.ShloMosaic.ix3 0 r e)) (fun e d => mat q e (col64 h d)) (fun e d => mat k e (col64 h d))
          (fun e d => mat v e (col64 h d)) (fun d n => mat o (col64 h d) n) r n := by
  unfold headS
  simp only [← ctx_at]
  unfold mat
  pointwise [outR]
  exact sum_cols _

end Cert.ReferenceIdealProof

end
-- ==== Proof.Equal.lean ====
/-
  The two programs compute one value: device `c`'s head `h` is head `8 c + h` of the whole arrays, so the sum over the
  devices of their eight heads' contributions is the sum over all sixty-four.
-/
module

public import proofs.«01_k».proof.Proof.KernelIdealTotal
public import proofs.«01_k».proof.Proof.ReferenceIdealValue
public import Idealize.ShloMosaic.Lib.Layout

@[expose] public section

noncomputable section

namespace Cert.Attn

open Idealize.ShloMosaic
open Cert.KernelIdealProof (OutV acc partV col8 part_at acc_at)
open Cert.ReferenceIdealProof (outR out_at col64)
open scoped BigOperators

/-- Head `h` of device `c` among all heads. -/
def head64 (c h : Fin 8) : Fin 64 := ⟨c.val * 8 + h.val, by omega⟩

/-- A device's block of a weight cut by columns, at one of its heads' lanes, -/
theorem block_cols (w : (⟨2, ![1024, 8192]⟩ : Shape).Idx → EReal) (c h : Fin 8) (e : Fin 1024) (d : Fin 128) :
    mat (Layout.block ⟨2, ![1024, 1024]⟩ ⟨2, ![1024, 8192]⟩ 1 8 c w) e (col8 h d) = mat w e (col64 (head64 c h) d) := by
  unfold mat
  rw [Layout.block_apply]
  refine congrArg w (funext fun a => Fin.ext ?_)
  rw [Layout.Tiles.idx_val]
  fin_cases a
  · rfl
  · show c.val * 1024 + (128 * h.val + d.val) = (c.val * 8 + h.val) * 128 + d.val
    omega
/-- and of the output matrix, cut by rows. -/
theorem block_rows (w : (⟨2, ![8192, 1024]⟩ : Shape).Idx → EReal) (c h : Fin 8) (d : Fin 128) (n : Fin 1024) :
    mat (Layout.block ⟨2, ![1024, 1024]⟩ ⟨2, ![8192, 1024]⟩ 0 8 c w) (col8 h d) n = mat w (col64 (head64 c h) d) n := by
  unfold mat
  rw [Layout.block_apply]
  refine congrArg w (funext fun a => Fin.ext ?_)
  rw [Layout.Tiles.idx_val]
  fin_cases a
  · show c.val * 1024 + (128 * h.val + d.val) = (c.val * 8 + h.val) * 128 + d.val
    omega
  · rfl

/-- A sum over all heads is one over the devices and their heads. -/
theorem sum_heads (f : Fin 64 → EReal) : ∑ k, f k = ∑ c : Fin 8, ∑ h : Fin 8, f (head64 c h) := by
  rw [← Fintype.sum_prod_type']
  refine (Fintype.sum_equiv (finProdFinEquiv (m := 8) (n := 8)) _ _ fun p => ?_).symm
  exact congrArg f (Fin.ext (by show p.1.val * 8 + p.2.val = p.2.val + 8 * p.1.val; omega))

/-- Two matrices that agree at every row and column are one. -/
theorem mat_ext {a b : ℕ} {u w : (⟨2, ![a, b]⟩ : Shape).Idx → EReal} (h : ∀ i j, mat u i j = mat w i j) : u = w :=
  funext fun i => (congrArg u (eq_ix2 i)).trans ((h (i 0) (i 1)).trans (congrArg w (eq_ix2 i).symm))

/-- The devices' accumulated partial results are the reference's result. -/
theorem value_eq (x : (⟨3, ![1, 1024, 1024]⟩ : Shape).Idx → EReal) (q k v : (⟨2, ![1024, 8192]⟩ : Shape).Idx → EReal)
    (o : (⟨2, ![8192, 1024]⟩ : Shape).Idx → EReal) :
    (acc (F := Ideal) (fun c => partV (F := Ideal) x (Layout.block ⟨2, ![1024, 1024]⟩ ⟨2, ![1024, 8192]⟩ 1 8 c q)
        (Layout.block ⟨2, ![1024, 1024]⟩ ⟨2, ![1024, 8192]⟩ 1 8 c k) (Layout.block ⟨2, ![1024, 1024]⟩ ⟨2, ![1024, 8192]⟩ 1 8 c v)
        (Layout.block ⟨2, ![1024, 1024]⟩ ⟨2, ![8192, 1024]⟩ 0 8 c o)) 7 : (⟨2, ![1024, 1024]⟩ : Shape).Idx → EReal)
      = outR (F := Ideal) x q k v o := by
  refine mat_ext fun r n => (acc_at _ r n).trans (Eq.trans ?_ (out_at x q k v o r n).symm)
  rw [sum_heads]
  refine Finset.sum_congr rfl fun c _ => (part_at _ _ _ _ _ r n).trans ?_
  simp only [block_cols, block_rows]

end Cert.Attn

end
-- ==== Proof.lean ====
/-
  The five claims. The frames of the kernel and of its idealization come from the launch (KernelLaunch.lean,
  KernelIdealLaunch.lean), that of the reference from its composed term; the two printed kernels are one text; and the
  idealized kernel's result equals the reference's by Equal.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem

/-- The five argument arrays are windows of the kernel that are only read, so they end as they began; every counter
    ends at zero. -/
theorem frame_kernel : Cert.quiescent_Kernel (hKernel := Cert.Kernel.Gen.facts) := fun m g _ =>
  (θ_run Cert.Kernel.defs _ _).mono
    (fun _ h => ⟨fun c =>
      ⟨(h.1 c 0).trans ((Cert.KernelProof.dats m g 0 c).arrAt_in 0 rfl _), (h.1 c 1).trans ((Cert.KernelProof.dats m g 0 c).arrAt_in 1 rfl _),
        (h.1 c 2).trans ((Cert.KernelProof.dats m g 0 c).arrAt_in 2 rfl _), (h.1 c 3).trans ((Cert.KernelProof.dats m g 0 c).arrAt_in 3 rfl _),
        (h.1 c 4).trans ((Cert.KernelProof.dats m g 0 c).arrAt_in 4 rfl _)⟩, h.2⟩)
    (Cert.KernelProof.run_main m g)

/-- The same over the reals. -/
theorem frame_kernel_ideal : Cert.quiescent_KernelIdeal (hKernelIdeal := Cert.KernelIdeal.Gen.facts) := fun m g _ =>
  (θ_run Cert.KernelIdeal.defs _ _).mono
    (fun _ h => ⟨fun c =>
      ⟨(h.1 c 0).trans ((Cert.KernelIdealProof.dats m g 0 c).arrAt_in 0 rfl _), (h.1 c 1).trans ((Cert.KernelIdealProof.dats m g 0 c).arrAt_in 1 rfl _),
        (h.1 c 2).trans ((Cert.KernelIdealProof.dats m g 0 c).arrAt_in 2 rfl _), (h.1 c 3).trans ((Cert.KernelIdealProof.dats m g 0 c).arrAt_in 3 rfl _),
        (h.1 c 4).trans ((Cert.KernelIdealProof.dats m g 0 c).arrAt_in 4 rfl _)⟩, h.2⟩)
    (Cert.KernelIdealProof.run_main m g)

/-- The reference leaves its arguments as they were; it has no counters. -/
theorem frame_reference_ideal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run m g)

/-- On arguments cut as the mesh cuts them, every device's result is the reference's. -/
theorem algebraic_ideal : Cert.algebraic_KernelIdeal_ReferenceIdeal (hKernelIdeal := Cert.KernelIdeal.Gen.facts)
    (hReferenceIdeal := Cert.ReferenceIdeal.Gen.facts) := fun m g m' g' _ ha =>
  ⟨Cert.ReferenceIdeal.Value.res_main_v81 m' 0,
    (θ_run Cert.KernelIdeal.defs _ _).mono
      (fun _ h c =>
        ⟨(h.1 c 5).trans ((Cert.KernelIdealProof.final_out m g c).trans (by
            rw [Cert.ReferenceIdealProof.res_eq]
            unfold Cert.KernelIdealProof.outC
            rw [show Cert.KernelIdealProof.partC m g = _ from funext fun c => Cert.KernelIdealProof.partC_eq m g c]
            simp only [(ha _).1, (ha _).2.1, (ha _).2.2.1, (ha _).2.2.2.1, (ha _).2.2.2.2]
            exact Cert.Attn.value_eq _ _ _ _ _)),
          (h.1 c 0).trans ((Cert.KernelIdealProof.dats m g 0 c).arrAt_in 0 rfl _), (h.1 c 1).trans ((Cert.KernelIdealProof.dats m g 0 c).arrAt_in 1 rfl _),
          (h.1 c 2).trans ((Cert.KernelIdealProof.dats m g 0 c).arrAt_in 2 rfl _), (h.1 c 3).trans ((Cert.KernelIdealProof.dats m g 0 c).arrAt_in 3 rfl _),
          (h.1 c 4).trans ((Cert.KernelIdealProof.dats m g 0 c).arrAt_in 4 rfl _)⟩)
      (Cert.KernelIdealProof.run_main m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_kernel_ideal, frame_reference_ideal, trivial, algebraic_ideal⟩

end Cert.Proof

end
